-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 768]⟩ ⟨2, ![16384, 768]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 256, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![2, 512, 8, 64]⟩ ⟨4, ![2, 512, 256, 64]⟩ 2 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x512 : Shape := ⟨2, ![768, 512]⟩
abbrev S512x768 : Shape := ⟨2, ![512, 768]⟩
abbrev S2x512x8x64 : Shape := ⟨4, ![2, 512, 8, 64]⟩
abbrev S2x8x512x64 : Shape := ⟨4, ![2, 8, 512, 64]⟩
abbrev S32x16x768 : Shape := ⟨3, ![32, 16, 768]⟩
abbrev S512x512 : Shape := ⟨2, ![512, 512]⟩
abbrev S32 : Shape := ⟨1, ![32]⟩
abbrev S256x64 : Shape := ⟨2, ![256, 64]⟩
abbrev S1x1x512x64 : Shape := ⟨4, ![1, 1, 512, 64]⟩
abbrev S512x64 : Shape := ⟨2, ![512, 64]⟩
abbrev S256x512 : Shape := ⟨2, ![256, 512]⟩
abbrev S256 : Shape := ⟨1, ![256]⟩
abbrev S256x1 : Shape := ⟨2, ![256, 1]⟩
abbrev S_ : Shape := ⟨0, ![]⟩
abbrev S1 : Shape := ⟨1, ![1]⟩
abbrev S1x16x768 : Shape := ⟨3, ![1, 16, 768]⟩
abbrev S16x768 : Shape := ⟨2, ![16, 768]⟩

abbrev nBuf : Space → Nat
  | .hbm => 10
  | .vmem => 11
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S512x768, .bf16⟩
  | .hbm, ⟨3, _⟩ => ⟨S2x512x8x64, .bf16⟩
  | .hbm, ⟨4, _⟩ => ⟨S2x512x8x64, .bf16⟩
  | .hbm, ⟨5, _⟩ => ⟨S512x768, .bf16⟩
  | .hbm, ⟨6, _⟩ => ⟨S2x8x512x64, .bf16⟩
  | .hbm, ⟨7, _⟩ => ⟨S2x8x512x64, .bf16⟩
  | .hbm, ⟨8, _⟩ => ⟨S32x16x768, .f32⟩
  | .hbm, ⟨9, _⟩ => ⟨S2x256x768, .f32⟩
  | .local _ .vmem, ⟨0, _⟩ => ⟨S512x768, .bf16⟩
  | .local _ .vmem, ⟨1, _⟩ => ⟨S768x512, .bf16⟩
  | .local _ .vmem, ⟨2, _⟩ => ⟨S512x768, .bf16⟩
  | .local _ .vmem, ⟨3, _⟩ => ⟨S2x8x512x64, .bf16⟩
  | .local _ .vmem, ⟨4, _⟩ => ⟨S2x8x512x64, .bf16⟩
  | .local _ .vmem, ⟨5, _⟩ => ⟨S32x16x768, .f32⟩
  | .local _ .vmem, ⟨6, _⟩ => ⟨S512x512, .bf16⟩
  | .local _ .vmem, ⟨7, _⟩ => ⟨S32x16x768, .f32⟩
  | .local _ .vmem, ⟨8, _⟩ => ⟨S32x16x768, .bf16⟩
  | .local _ .vmem, ⟨9, _⟩ => ⟨S32x16x768, .bf16⟩
  | .local _ .vmem, ⟨10, _⟩ => ⟨S32x16x768, .bf16⟩
  | _, _ => ⟨S2x256x768, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_228 : BitVec 32 := 1#32
  let v361 : BitVec 32 := Scalar.addi v2 c1_i32_228
  let c32_i32_229 : BitVec 32 := 32#32
  let v362 : BitVec 32 := Scalar.remsi v361 c32_i32_229
  let c1_i32_231 : BitVec 32 := 1#32
  let v363 : BitVec 32 := Scalar.muli v362 c1_i32_231
  let v364 : BitVec 32 := Scalar.addi c0_i32 v363
  v364.toNat
def k0_dev2 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v365 : BitVec 32 := Scalar.addi v2 c2_i32
  let c32_i32_232 : BitVec 32 := 32#32
  let v366 : BitVec 32 := Scalar.remsi v365 c32_i32_232
  let c1_i32_234 : BitVec 32 := 1#32
  let v367 : BitVec 32 := Scalar.muli v366 c1_i32_234
  let v368 : BitVec 32 := Scalar.addi c0_i32_235 v367
  v368.toNat
def k0_dev3 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v369 : BitVec 32 := Scalar.addi v2 c3_i32
  let c32_i32_236 : BitVec 32 := 32#32
  let v370 : BitVec 32 := Scalar.remsi v369 c32_i32_236
  let c1_i32_238 : BitVec 32 := 1#32
  let v371 : BitVec 32 := Scalar.muli v370 c1_i32_238
  let v372 : BitVec 32 := Scalar.addi c0_i32_239 v371
  v372.toNat
def k0_dev4 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v373 : BitVec 32 := Scalar.addi v2 c4_i32
  let c32_i32_240 : BitVec 32 := 32#32
  let v374 : BitVec 32 := Scalar.remsi v373 c32_i32_240
  let c1_i32_242 : BitVec 32 := 1#32
  let v375 : BitVec 32 := Scalar.muli v374 c1_i32_242
  let v376 : BitVec 32 := Scalar.addi c0_i32_243 v375
  v376.toNat
def k0_dev5 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v377 : BitVec 32 := Scalar.addi v2 c5_i32
  let c32_i32_244 : BitVec 32 := 32#32
  let v378 : BitVec 32 := Scalar.remsi v377 c32_i32_244
  let c1_i32_246 : BitVec 32 := 1#32
  let v379 : BitVec 32 := Scalar.muli v378 c1_i32_246
  let v380 : BitVec 32 := Scalar.addi c0_i32_247 v379
  v380.toNat
def k0_dev6 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v381 : BitVec 32 := Scalar.addi v2 c6_i32
  let c32_i32_248 : BitVec 32 := 32#32
  let v382 : BitVec 32 := Scalar.remsi v381 c32_i32_248
  let c1_i32_250 : BitVec 32 := 1#32
  let v383 : BitVec 32 := Scalar.muli v382 c1_i32_250
  let v384 : BitVec 32 := Scalar.addi c0_i32_251 v383
  v384.toNat
def k0_dev7 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v385 : BitVec 32 := Scalar.addi v2 c7_i32
  let c32_i32_252 : BitVec 32 := 32#32
  let v386 : BitVec 32 := Scalar.remsi v385 c32_i32_252
  let c1_i32_254 : BitVec 32 := 1#32
  let v387 : BitVec 32 := Scalar.muli v386 c1_i32_254
  let v388 : BitVec 32 := Scalar.addi c0_i32_255 v387
  v388.toNat
def k0_dev8 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v389 : BitVec 32 := Scalar.addi v2 c8_i32
  let c32_i32_256 : BitVec 32 := 32#32
  let v390 : BitVec 32 := Scalar.remsi v389 c32_i32_256
  let c1_i32_258 : BitVec 32 := 1#32
  let v391 : BitVec 32 := Scalar.muli v390 c1_i32_258
  let v392 : BitVec 32 := Scalar.addi c0_i32_259 v391
  v392.toNat
def k0_dev9 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v393 : BitVec 32 := Scalar.addi v2 c9_i32
  let c32_i32_260 : BitVec 32 := 32#32
  let v394 : BitVec 32 := Scalar.remsi v393 c32_i32_260
  let c1_i32_262 : BitVec 32 := 1#32
  let v395 : BitVec 32 := Scalar.muli v394 c1_i32_262
  let v396 : BitVec 32 := Scalar.addi c0_i32_263 v395
  v396.toNat
def k0_dev10 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v397 : BitVec 32 := Scalar.addi v2 c10_i32
  let c32_i32_264 : BitVec 32 := 32#32
  let v398 : BitVec 32 := Scalar.remsi v397 c32_i32_264
  let c1_i32_266 : BitVec 32 := 1#32
  let v399 : BitVec 32 := Scalar.muli v398 c1_i32_266
  let v400 : BitVec 32 := Scalar.addi c0_i32_267 v399
  v400.toNat
def k0_dev11 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v401 : BitVec 32 := Scalar.addi v2 c11_i32
  let c32_i32_268 : BitVec 32 := 32#32
  let v402 : BitVec 32 := Scalar.remsi v401 c32_i32_268
  let c1_i32_270 : BitVec 32 := 1#32
  let v403 : BitVec 32 := Scalar.muli v402 c1_i32_270
  let v404 : BitVec 32 := Scalar.addi c0_i32_271 v403
  v404.toNat
def k0_dev12 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v405 : BitVec 32 := Scalar.addi v2 c12_i32
  let c32_i32_272 : BitVec 32 := 32#32
  let v406 : BitVec 32 := Scalar.remsi v405 c32_i32_272
  let c1_i32_274 : BitVec 32 := 1#32
  let v407 : BitVec 32 := Scalar.muli v406 c1_i32_274
  let v408 : BitVec 32 := Scalar.addi c0_i32_275 v407
  v408.toNat
def k0_dev13 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v409 : BitVec 32 := Scalar.addi v2 c13_i32
  let c32_i32_276 : BitVec 32 := 32#32
  let v410 : BitVec 32 := Scalar.remsi v409 c32_i32_276
  let c1_i32_278 : BitVec 32 := 1#32
  let v411 : BitVec 32 := Scalar.muli v410 c1_i32_278
  let v412 : BitVec 32 := Scalar.addi c0_i32_279 v411
  v412.toNat
def k0_dev14 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v413 : BitVec 32 := Scalar.addi v2 c14_i32
  let c32_i32_280 : BitVec 32 := 32#32
  let v414 : BitVec 32 := Scalar.remsi v413 c32_i32_280
  let c1_i32_282 : BitVec 32 := 1#32
  let v415 : BitVec 32 := Scalar.muli v414 c1_i32_282
  let v416 : BitVec 32 := Scalar.addi c0_i32_283 v415
  v416.toNat
def k0_dev15 (d0 : Dev nD) : Nat :=
  let c0_i32_287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v417 : BitVec 32 := Scalar.addi v2 c15_i32
  let c32_i32_284 : BitVec 32 := 32#32
  let v418 : BitVec 32 := Scalar.remsi v417 c32_i32_284
  let c1_i32_286 : BitVec 32 := 1#32
  let v419 : BitVec 32 := Scalar.muli v418 c1_i32_286
  let v420 : BitVec 32 := Scalar.addi c0_i32_287 v419
  v420.toNat
def k0_dev16 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v421 : BitVec 32 := Scalar.addi v2 c16_i32
  let c32_i32_288 : BitVec 32 := 32#32
  let v422 : BitVec 32 := Scalar.remsi v421 c32_i32_288
  let c1_i32_290 : BitVec 32 := 1#32
  let v423 : BitVec 32 := Scalar.muli v422 c1_i32_290
  let v424 : BitVec 32 := Scalar.addi c0_i32_291 v423
  v424.toNat
def k0_dev17 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v425 : BitVec 32 := Scalar.addi v2 c17_i32
  let c32_i32_292 : BitVec 32 := 32#32
  let v426 : BitVec 32 := Scalar.remsi v425 c32_i32_292
  let c1_i32_294 : BitVec 32 := 1#32
  let v427 : BitVec 32 := Scalar.muli v426 c1_i32_294
  let v428 : BitVec 32 := Scalar.addi c0_i32_295 v427
  v428.toNat
def k0_dev18 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v429 : BitVec 32 := Scalar.addi v2 c18_i32
  let c32_i32_296 : BitVec 32 := 32#32
  let v430 : BitVec 32 := Scalar.remsi v429 c32_i32_296
  let c1_i32_298 : BitVec 32 := 1#32
  let v431 : BitVec 32 := Scalar.muli v430 c1_i32_298
  let v432 : BitVec 32 := Scalar.addi c0_i32_299 v431
  v432.toNat
def k0_dev19 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v433 : BitVec 32 := Scalar.addi v2 c19_i32
  let c32_i32_300 : BitVec 32 := 32#32
  let v434 : BitVec 32 := Scalar.remsi v433 c32_i32_300
  let c1_i32_302 : BitVec 32 := 1#32
  let v435 : BitVec 32 := Scalar.muli v434 c1_i32_302
  let v436 : BitVec 32 := Scalar.addi c0_i32_303 v435
  v436.toNat
def k0_dev20 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v437 : BitVec 32 := Scalar.addi v2 c20_i32
  let c32_i32_304 : BitVec 32 := 32#32
  let v438 : BitVec 32 := Scalar.remsi v437 c32_i32_304
  let c1_i32_306 : BitVec 32 := 1#32
  let v439 : BitVec 32 := Scalar.muli v438 c1_i32_306
  let v440 : BitVec 32 := Scalar.addi c0_i32_307 v439
  v440.toNat
def k0_dev21 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v441 : BitVec 32 := Scalar.addi v2 c21_i32
  let c32_i32_308 : BitVec 32 := 32#32
  let v442 : BitVec 32 := Scalar.remsi v441 c32_i32_308
  let c1_i32_310 : BitVec 32 := 1#32
  let v443 : BitVec 32 := Scalar.muli v442 c1_i32_310
  let v444 : BitVec 32 := Scalar.addi c0_i32_311 v443
  v444.toNat
def k0_dev22 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v445 : BitVec 32 := Scalar.addi v2 c22_i32
  let c32_i32_312 : BitVec 32 := 32#32
  let v446 : BitVec 32 := Scalar.remsi v445 c32_i32_312
  let c1_i32_314 : BitVec 32 := 1#32
  let v447 : BitVec 32 := Scalar.muli v446 c1_i32_314
  let v448 : BitVec 32 := Scalar.addi c0_i32_315 v447
  v448.toNat
def k0_dev23 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v449 : BitVec 32 := Scalar.addi v2 c23_i32
  let c32_i32_316 : BitVec 32 := 32#32
  let v450 : BitVec 32 := Scalar.remsi v449 c32_i32_316
  let c1_i32_318 : BitVec 32 := 1#32
  let v451 : BitVec 32 := Scalar.muli v450 c1_i32_318
  let v452 : BitVec 32 := Scalar.addi c0_i32_319 v451
  v452.toNat
def k0_dev24 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v453 : BitVec 32 := Scalar.addi v2 c24_i32
  let c32_i32_320 : BitVec 32 := 32#32
  let v454 : BitVec 32 := Scalar.remsi v453 c32_i32_320
  let c1_i32_322 : BitVec 32 := 1#32
  let v455 : BitVec 32 := Scalar.muli v454 c1_i32_322
  let v456 : BitVec 32 := Scalar.addi c0_i32_323 v455
  v456.toNat
def k0_dev25 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v457 : BitVec 32 := Scalar.addi v2 c25_i32
  let c32_i32_324 : BitVec 32 := 32#32
  let v458 : BitVec 32 := Scalar.remsi v457 c32_i32_324
  let c1_i32_326 : BitVec 32 := 1#32
  let v459 : BitVec 32 := Scalar.muli v458 c1_i32_326
  let v460 : BitVec 32 := Scalar.addi c0_i32_327 v459
  v460.toNat
def k0_dev26 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v461 : BitVec 32 := Scalar.addi v2 c26_i32
  let c32_i32_328 : BitVec 32 := 32#32
  let v462 : BitVec 32 := Scalar.remsi v461 c32_i32_328
  let c1_i32_330 : BitVec 32 := 1#32
  let v463 : BitVec 32 := Scalar.muli v462 c1_i32_330
  let v464 : BitVec 32 := Scalar.addi c0_i32_331 v463
  v464.toNat
def k0_dev27 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v465 : BitVec 32 := Scalar.addi v2 c27_i32
  let c32_i32_332 : BitVec 32 := 32#32
  let v466 : BitVec 32 := Scalar.remsi v465 c32_i32_332
  let c1_i32_334 : BitVec 32 := 1#32
  let v467 : BitVec 32 := Scalar.muli v466 c1_i32_334
  let v468 : BitVec 32 := Scalar.addi c0_i32_335 v467
  v468.toNat
def k0_dev28 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v469 : BitVec 32 := Scalar.addi v2 c28_i32
  let c32_i32_336 : BitVec 32 := 32#32
  let v470 : BitVec 32 := Scalar.remsi v469 c32_i32_336
  let c1_i32_338 : BitVec 32 := 1#32
  let v471 : BitVec 32 := Scalar.muli v470 c1_i32_338
  let v472 : BitVec 32 := Scalar.addi c0_i32_339 v471
  v472.toNat
def k0_dev29 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v473 : BitVec 32 := Scalar.addi v2 c29_i32
  let c32_i32_340 : BitVec 32 := 32#32
  let v474 : BitVec 32 := Scalar.remsi v473 c32_i32_340
  let c1_i32_342 : BitVec 32 := 1#32
  let v475 : BitVec 32 := Scalar.muli v474 c1_i32_342
  let v476 : BitVec 32 := Scalar.addi c0_i32_343 v475
  v476.toNat
def k0_dev30 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v477 : BitVec 32 := Scalar.addi v2 c30_i32
  let c32_i32_344 : BitVec 32 := 32#32
  let v478 : BitVec 32 := Scalar.remsi v477 c32_i32_344
  let c1_i32_346 : BitVec 32 := 1#32
  let v479 : BitVec 32 := Scalar.muli v478 c1_i32_346
  let v480 : BitVec 32 := Scalar.addi c0_i32_347 v479
  v480.toNat
def k0_dev31 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v481 : BitVec 32 := Scalar.addi v2 c31_i32
  let c32_i32_348 : BitVec 32 := 32#32
  let v482 : BitVec 32 := Scalar.remsi v481 c32_i32_348
  let c1_i32_350 : BitVec 32 := 1#32
  let v483 : BitVec 32 := Scalar.muli v482 c1_i32_350
  let v484 : BitVec 32 := Scalar.addi c0_i32_351 v483
  v484.toNat
def k0_off1 (d0 : Dev nD) (c1_i32_353 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v485 : BitVec 32 := Scalar.addi v2 c1_i32_353
  let c32_i32_354 : BitVec 32 := 32#32
  let v486 : BitVec 32 := Scalar.remsi v485 c32_i32_354
  let c0_i32_362 : BitVec 32 := 0#32
  let c0_i32_363 : BitVec 32 := 0#32
  ![v486.toNat, 0, 0]
def k0_dev32 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_353 : BitVec 32 := 1#32
  let v485 : BitVec 32 := Scalar.addi v2 c1_i32_353
  let c32_i32_354 : BitVec 32 := 32#32
  let v486 : BitVec 32 := Scalar.remsi v485 c32_i32_354
  let c1_i32_358 : BitVec 32 := 1#32
  let v487 : BitVec 32 := Scalar.muli v486 c1_i32_358
  let v488 : BitVec 32 := Scalar.addi c0_i32_359 v487
  v488.toNat
def k0_dev33 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_364 : BitVec 32 := 2#32
  let v497 : BitVec 32 := Scalar.addi v2 c2_i32_364
  let c32_i32_365 : BitVec 32 := 32#32
  let v498 : BitVec 32 := Scalar.remsi v497 c32_i32_365
  let c1_i32_369 : BitVec 32 := 1#32
  let v499 : BitVec 32 := Scalar.muli v498 c1_i32_369
  let v500 : BitVec 32 := Scalar.addi c0_i32_370 v499
  v500.toNat
def k0_dev34 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_375 : BitVec 32 := 3#32
  let v509 : BitVec 32 := Scalar.addi v2 c3_i32_375
  let c32_i32_376 : BitVec 32 := 32#32
  let v510 : BitVec 32 := Scalar.remsi v509 c32_i32_376
  let c1_i32_380 : BitVec 32 := 1#32
  let v511 : BitVec 32 := Scalar.muli v510 c1_i32_380
  let v512 : BitVec 32 := Scalar.addi c0_i32_381 v511
  v512.toNat
def k0_dev35 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_386 : BitVec 32 := 4#32
  let v521 : BitVec 32 := Scalar.addi v2 c4_i32_386
  let c32_i32_387 : BitVec 32 := 32#32
  let v522 : BitVec 32 := Scalar.remsi v521 c32_i32_387
  let c1_i32_391 : BitVec 32 := 1#32
  let v523 : BitVec 32 := Scalar.muli v522 c1_i32_391
  let v524 : BitVec 32 := Scalar.addi c0_i32_392 v523
  v524.toNat
def k0_dev36 (d0 : Dev nD) : Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_397 : BitVec 32 := 5#32
  let v533 : BitVec 32 := Scalar.addi v2 c5_i32_397
  let c32_i32_398 : BitVec 32 := 32#32
  let v534 : BitVec 32 := Scalar.remsi v533 c32_i32_398
  let c1_i32_402 : BitVec 32 := 1#32
  let v535 : BitVec 32 := Scalar.muli v534 c1_i32_402
  let v536 : BitVec 32 := Scalar.addi c0_i32_403 v535
  v536.toNat
def k0_dev37 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_408 : BitVec 32 := 6#32
  let v545 : BitVec 32 := Scalar.addi v2 c6_i32_408
  let c32_i32_409 : BitVec 32 := 32#32
  let v546 : BitVec 32 := Scalar.remsi v545 c32_i32_409
  let c1_i32_413 : BitVec 32 := 1#32
  let v547 : BitVec 32 := Scalar.muli v546 c1_i32_413
  let v548 : BitVec 32 := Scalar.addi c0_i32_414 v547
  v548.toNat
def k0_dev38 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_419 : BitVec 32 := 7#32
  let v557 : BitVec 32 := Scalar.addi v2 c7_i32_419
  let c32_i32_420 : BitVec 32 := 32#32
  let v558 : BitVec 32 := Scalar.remsi v557 c32_i32_420
  let c1_i32_424 : BitVec 32 := 1#32
  let v559 : BitVec 32 := Scalar.muli v558 c1_i32_424
  let v560 : BitVec 32 := Scalar.addi c0_i32_425 v559
  v560.toNat
def k0_dev39 (d0 : Dev nD) : Nat :=
  let c0_i32_436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_430 : BitVec 32 := 8#32
  let v569 : BitVec 32 := Scalar.addi v2 c8_i32_430
  let c32_i32_431 : BitVec 32 := 32#32
  let v570 : BitVec 32 := Scalar.remsi v569 c32_i32_431
  let c1_i32_435 : BitVec 32 := 1#32
  let v571 : BitVec 32 := Scalar.muli v570 c1_i32_435
  let v572 : BitVec 32 := Scalar.addi c0_i32_436 v571
  v572.toNat
def k0_dev40 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_441 : BitVec 32 := 9#32
  let v581 : BitVec 32 := Scalar.addi v2 c9_i32_441
  let c32_i32_442 : BitVec 32 := 32#32
  let v582 : BitVec 32 := Scalar.remsi v581 c32_i32_442
  let c1_i32_446 : BitVec 32 := 1#32
  let v583 : BitVec 32 := Scalar.muli v582 c1_i32_446
  let v584 : BitVec 32 := Scalar.addi c0_i32_447 v583
  v584.toNat
def k0_dev41 (d0 : Dev nD) : Nat :=
  let c0_i32_458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_452 : BitVec 32 := 10#32
  let v593 : BitVec 32 := Scalar.addi v2 c10_i32_452
  let c32_i32_453 : BitVec 32 := 32#32
  let v594 : BitVec 32 := Scalar.remsi v593 c32_i32_453
  let c1_i32_457 : BitVec 32 := 1#32
  let v595 : BitVec 32 := Scalar.muli v594 c1_i32_457
  let v596 : BitVec 32 := Scalar.addi c0_i32_458 v595
  v596.toNat
def k0_dev42 (d0 : Dev nD) : Nat :=
  let c0_i32_469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_463 : BitVec 32 := 11#32
  let v605 : BitVec 32 := Scalar.addi v2 c11_i32_463
  let c32_i32_464 : BitVec 32 := 32#32
  let v606 : BitVec 32 := Scalar.remsi v605 c32_i32_464
  let c1_i32_468 : BitVec 32 := 1#32
  let v607 : BitVec 32 := Scalar.muli v606 c1_i32_468
  let v608 : BitVec 32 := Scalar.addi c0_i32_469 v607
  v608.toNat
def k0_dev43 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_474 : BitVec 32 := 12#32
  let v617 : BitVec 32 := Scalar.addi v2 c12_i32_474
  let c32_i32_475 : BitVec 32 := 32#32
  let v618 : BitVec 32 := Scalar.remsi v617 c32_i32_475
  let c1_i32_479 : BitVec 32 := 1#32
  let v619 : BitVec 32 := Scalar.muli v618 c1_i32_479
  let v620 : BitVec 32 := Scalar.addi c0_i32_480 v619
  v620.toNat
def k0_dev44 (d0 : Dev nD) : Nat :=
  let c0_i32_491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_485 : BitVec 32 := 13#32
  let v629 : BitVec 32 := Scalar.addi v2 c13_i32_485
  let c32_i32_486 : BitVec 32 := 32#32
  let v630 : BitVec 32 := Scalar.remsi v629 c32_i32_486
  let c1_i32_490 : BitVec 32 := 1#32
  let v631 : BitVec 32 := Scalar.muli v630 c1_i32_490
  let v632 : BitVec 32 := Scalar.addi c0_i32_491 v631
  v632.toNat
def k0_dev45 (d0 : Dev nD) : Nat :=
  let c0_i32_502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_496 : BitVec 32 := 14#32
  let v641 : BitVec 32 := Scalar.addi v2 c14_i32_496
  let c32_i32_497 : BitVec 32 := 32#32
  let v642 : BitVec 32 := Scalar.remsi v641 c32_i32_497
  let c1_i32_501 : BitVec 32 := 1#32
  let v643 : BitVec 32 := Scalar.muli v642 c1_i32_501
  let v644 : BitVec 32 := Scalar.addi c0_i32_502 v643
  v644.toNat
def k0_dev46 (d0 : Dev nD) : Nat :=
  let c0_i32_513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_507 : BitVec 32 := 15#32
  let v653 : BitVec 32 := Scalar.addi v2 c15_i32_507
  let c32_i32_508 : BitVec 32 := 32#32
  let v654 : BitVec 32 := Scalar.remsi v653 c32_i32_508
  let c1_i32_512 : BitVec 32 := 1#32
  let v655 : BitVec 32 := Scalar.muli v654 c1_i32_512
  let v656 : BitVec 32 := Scalar.addi c0_i32_513 v655
  v656.toNat
def k0_dev47 (d0 : Dev nD) : Nat :=
  let c0_i32_524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_518 : BitVec 32 := 16#32
  let v665 : BitVec 32 := Scalar.addi v2 c16_i32_518
  let c32_i32_519 : BitVec 32 := 32#32
  let v666 : BitVec 32 := Scalar.remsi v665 c32_i32_519
  let c1_i32_523 : BitVec 32 := 1#32
  let v667 : BitVec 32 := Scalar.muli v666 c1_i32_523
  let v668 : BitVec 32 := Scalar.addi c0_i32_524 v667
  v668.toNat
def k0_dev48 (d0 : Dev nD) : Nat :=
  let c0_i32_535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_529 : BitVec 32 := 17#32
  let v677 : BitVec 32 := Scalar.addi v2 c17_i32_529
  let c32_i32_530 : BitVec 32 := 32#32
  let v678 : BitVec 32 := Scalar.remsi v677 c32_i32_530
  let c1_i32_534 : BitVec 32 := 1#32
  let v679 : BitVec 32 := Scalar.muli v678 c1_i32_534
  let v680 : BitVec 32 := Scalar.addi c0_i32_535 v679
  v680.toNat
def k0_dev49 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_540 : BitVec 32 := 18#32
  let v689 : BitVec 32 := Scalar.addi v2 c18_i32_540
  let c32_i32_541 : BitVec 32 := 32#32
  let v690 : BitVec 32 := Scalar.remsi v689 c32_i32_541
  let c1_i32_545 : BitVec 32 := 1#32
  let v691 : BitVec 32 := Scalar.muli v690 c1_i32_545
  let v692 : BitVec 32 := Scalar.addi c0_i32_546 v691
  v692.toNat
def k0_dev50 (d0 : Dev nD) : Nat :=
  let c0_i32_557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_551 : BitVec 32 := 19#32
  let v701 : BitVec 32 := Scalar.addi v2 c19_i32_551
  let c32_i32_552 : BitVec 32 := 32#32
  let v702 : BitVec 32 := Scalar.remsi v701 c32_i32_552
  let c1_i32_556 : BitVec 32 := 1#32
  let v703 : BitVec 32 := Scalar.muli v702 c1_i32_556
  let v704 : BitVec 32 := Scalar.addi c0_i32_557 v703
  v704.toNat
def k0_dev51 (d0 : Dev nD) : Nat :=
  let c0_i32_568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_562 : BitVec 32 := 20#32
  let v713 : BitVec 32 := Scalar.addi v2 c20_i32_562
  let c32_i32_563 : BitVec 32 := 32#32
  let v714 : BitVec 32 := Scalar.remsi v713 c32_i32_563
  let c1_i32_567 : BitVec 32 := 1#32
  let v715 : BitVec 32 := Scalar.muli v714 c1_i32_567
  let v716 : BitVec 32 := Scalar.addi c0_i32_568 v715
  v716.toNat
def k0_dev52 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_573 : BitVec 32 := 21#32
  let v725 : BitVec 32 := Scalar.addi v2 c21_i32_573
  let c32_i32_574 : BitVec 32 := 32#32
  let v726 : BitVec 32 := Scalar.remsi v725 c32_i32_574
  let c1_i32_578 : BitVec 32 := 1#32
  let v727 : BitVec 32 := Scalar.muli v726 c1_i32_578
  let v728 : BitVec 32 := Scalar.addi c0_i32_579 v727
  v728.toNat
def k0_dev53 (d0 : Dev nD) : Nat :=
  let c0_i32_590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_584 : BitVec 32 := 22#32
  let v737 : BitVec 32 := Scalar.addi v2 c22_i32_584
  let c32_i32_585 : BitVec 32 := 32#32
  let v738 : BitVec 32 := Scalar.remsi v737 c32_i32_585
  let c1_i32_589 : BitVec 32 := 1#32
  let v739 : BitVec 32 := Scalar.muli v738 c1_i32_589
  let v740 : BitVec 32 := Scalar.addi c0_i32_590 v739
  v740.toNat
def k0_dev54 (d0 : Dev nD) : Nat :=
  let c0_i32_601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_595 : BitVec 32 := 23#32
  let v749 : BitVec 32 := Scalar.addi v2 c23_i32_595
  let c32_i32_596 : BitVec 32 := 32#32
  let v750 : BitVec 32 := Scalar.remsi v749 c32_i32_596
  let c1_i32_600 : BitVec 32 := 1#32
  let v751 : BitVec 32 := Scalar.muli v750 c1_i32_600
  let v752 : BitVec 32 := Scalar.addi c0_i32_601 v751
  v752.toNat
def k0_dev55 (d0 : Dev nD) : Nat :=
  let c0_i32_612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_606 : BitVec 32 := 24#32
  let v761 : BitVec 32 := Scalar.addi v2 c24_i32_606
  let c32_i32_607 : BitVec 32 := 32#32
  let v762 : BitVec 32 := Scalar.remsi v761 c32_i32_607
  let c1_i32_611 : BitVec 32 := 1#32
  let v763 : BitVec 32 := Scalar.muli v762 c1_i32_611
  let v764 : BitVec 32 := Scalar.addi c0_i32_612 v763
  v764.toNat
def k0_dev56 (d0 : Dev nD) : Nat :=
  let c0_i32_623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_617 : BitVec 32 := 25#32
  let v773 : BitVec 32 := Scalar.addi v2 c25_i32_617
  let c32_i32_618 : BitVec 32 := 32#32
  let v774 : BitVec 32 := Scalar.remsi v773 c32_i32_618
  let c1_i32_622 : BitVec 32 := 1#32
  let v775 : BitVec 32 := Scalar.muli v774 c1_i32_622
  let v776 : BitVec 32 := Scalar.addi c0_i32_623 v775
  v776.toNat
def k0_dev57 (d0 : Dev nD) : Nat :=
  let c0_i32_634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_628 : BitVec 32 := 26#32
  let v785 : BitVec 32 := Scalar.addi v2 c26_i32_628
  let c32_i32_629 : BitVec 32 := 32#32
  let v786 : BitVec 32 := Scalar.remsi v785 c32_i32_629
  let c1_i32_633 : BitVec 32 := 1#32
  let v787 : BitVec 32 := Scalar.muli v786 c1_i32_633
  let v788 : BitVec 32 := Scalar.addi c0_i32_634 v787
  v788.toNat
def k0_dev58 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_639 : BitVec 32 := 27#32
  let v797 : BitVec 32 := Scalar.addi v2 c27_i32_639
  let c32_i32_640 : BitVec 32 := 32#32
  let v798 : BitVec 32 := Scalar.remsi v797 c32_i32_640
  let c1_i32_644 : BitVec 32 := 1#32
  let v799 : BitVec 32 := Scalar.muli v798 c1_i32_644
  let v800 : BitVec 32 := Scalar.addi c0_i32_645 v799
  v800.toNat
def k0_dev59 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_650 : BitVec 32 := 28#32
  let v809 : BitVec 32 := Scalar.addi v2 c28_i32_650
  let c32_i32_651 : BitVec 32 := 32#32
  let v810 : BitVec 32 := Scalar.remsi v809 c32_i32_651
  let c1_i32_655 : BitVec 32 := 1#32
  let v811 : BitVec 32 := Scalar.muli v810 c1_i32_655
  let v812 : BitVec 32 := Scalar.addi c0_i32_656 v811
  v812.toNat
def k0_dev60 (d0 : Dev nD) : Nat :=
  let c0_i32_667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_661 : BitVec 32 := 29#32
  let v821 : BitVec 32 := Scalar.addi v2 c29_i32_661
  let c32_i32_662 : BitVec 32 := 32#32
  let v822 : BitVec 32 := Scalar.remsi v821 c32_i32_662
  let c1_i32_666 : BitVec 32 := 1#32
  let v823 : BitVec 32 := Scalar.muli v822 c1_i32_666
  let v824 : BitVec 32 := Scalar.addi c0_i32_667 v823
  v824.toNat
def k0_dev61 (d0 : Dev nD) : Nat :=
  let c0_i32_678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_672 : BitVec 32 := 30#32
  let v833 : BitVec 32 := Scalar.addi v2 c30_i32_672
  let c32_i32_673 : BitVec 32 := 32#32
  let v834 : BitVec 32 := Scalar.remsi v833 c32_i32_673
  let c1_i32_677 : BitVec 32 := 1#32
  let v835 : BitVec 32 := Scalar.muli v834 c1_i32_677
  let v836 : BitVec 32 := Scalar.addi c0_i32_678 v835
  v836.toNat
def k0_dev62 (d0 : Dev nD) : Nat :=
  let c0_i32_689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_683 : BitVec 32 := 31#32
  let v845 : BitVec 32 := Scalar.addi v2 c31_i32_683
  let c32_i32_684 : BitVec 32 := 32#32
  let v846 : BitVec 32 := Scalar.remsi v845 c32_i32_684
  let c1_i32_688 : BitVec 32 := 1#32
  let v847 : BitVec 32 := Scalar.muli v846 c1_i32_688
  let v848 : BitVec 32 := Scalar.addi c0_i32_689 v847
  v848.toNat
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1291 : Index := Scalar.indexCast v2
  let c0_1221 : Index := 0#32
  let c0_1222 : Index := 0#32
  ![v1291.toNat, 0, 0]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1300 : BitVec 32 := 0#32
  let c0_i32_1301 : BitVec 32 := 0#32
  ![v2.toNat, 0, 0]
def k0_dev63 (d0 : Dev nD) : Nat :=
  let c0_i32_1299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1294 : BitVec 32 := 1#32
  let v1423 : BitVec 32 := Scalar.addi v2 c1_i32_1294
  let c32_i32_1295 : BitVec 32 := 32#32
  let v1424 : BitVec 32 := Scalar.remsi v1423 c32_i32_1295
  let c1_i32_1298 : BitVec 32 := 1#32
  let v1425 : BitVec 32 := Scalar.muli v1424 c1_i32_1298
  let v1426 : BitVec 32 := Scalar.addi c0_i32_1299 v1425
  v1426.toNat
def k0_dev64 (d0 : Dev nD) : Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1304 : BitVec 32 := 2#32
  let v1435 : BitVec 32 := Scalar.addi v2 c2_i32_1304
  let c32_i32_1305 : BitVec 32 := 32#32
  let v1436 : BitVec 32 := Scalar.remsi v1435 c32_i32_1305
  let c1_i32_1308 : BitVec 32 := 1#32
  let v1437 : BitVec 32 := Scalar.muli v1436 c1_i32_1308
  let v1438 : BitVec 32 := Scalar.addi c0_i32_1309 v1437
  v1438.toNat
def k0_dev65 (d0 : Dev nD) : Nat :=
  let c0_i32_1319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1314 : BitVec 32 := 3#32
  let v1447 : BitVec 32 := Scalar.addi v2 c3_i32_1314
  let c32_i32_1315 : BitVec 32 := 32#32
  let v1448 : BitVec 32 := Scalar.remsi v1447 c32_i32_1315
  let c1_i32_1318 : BitVec 32 := 1#32
  let v1449 : BitVec 32 := Scalar.muli v1448 c1_i32_1318
  let v1450 : BitVec 32 := Scalar.addi c0_i32_1319 v1449
  v1450.toNat
def k0_dev66 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1324 : BitVec 32 := 4#32
  let v1459 : BitVec 32 := Scalar.addi v2 c4_i32_1324
  let c32_i32_1325 : BitVec 32 := 32#32
  let v1460 : BitVec 32 := Scalar.remsi v1459 c32_i32_1325
  let c1_i32_1328 : BitVec 32 := 1#32
  let v1461 : BitVec 32 := Scalar.muli v1460 c1_i32_1328
  let v1462 : BitVec 32 := Scalar.addi c0_i32_1329 v1461
  v1462.toNat
def k0_dev67 (d0 : Dev nD) : Nat :=
  let c0_i32_1339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1334 : BitVec 32 := 5#32
  let v1471 : BitVec 32 := Scalar.addi v2 c5_i32_1334
  let c32_i32_1335 : BitVec 32 := 32#32
  let v1472 : BitVec 32 := Scalar.remsi v1471 c32_i32_1335
  let c1_i32_1338 : BitVec 32 := 1#32
  let v1473 : BitVec 32 := Scalar.muli v1472 c1_i32_1338
  let v1474 : BitVec 32 := Scalar.addi c0_i32_1339 v1473
  v1474.toNat
def k0_dev68 (d0 : Dev nD) : Nat :=
  let c0_i32_1349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1344 : BitVec 32 := 6#32
  let v1483 : BitVec 32 := Scalar.addi v2 c6_i32_1344
  let c32_i32_1345 : BitVec 32 := 32#32
  let v1484 : BitVec 32 := Scalar.remsi v1483 c32_i32_1345
  let c1_i32_1348 : BitVec 32 := 1#32
  let v1485 : BitVec 32 := Scalar.muli v1484 c1_i32_1348
  let v1486 : BitVec 32 := Scalar.addi c0_i32_1349 v1485
  v1486.toNat
def k0_dev69 (d0 : Dev nD) : Nat :=
  let c0_i32_1359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1354 : BitVec 32 := 7#32
  let v1495 : BitVec 32 := Scalar.addi v2 c7_i32_1354
  let c32_i32_1355 : BitVec 32 := 32#32
  let v1496 : BitVec 32 := Scalar.remsi v1495 c32_i32_1355
  let c1_i32_1358 : BitVec 32 := 1#32
  let v1497 : BitVec 32 := Scalar.muli v1496 c1_i32_1358
  let v1498 : BitVec 32 := Scalar.addi c0_i32_1359 v1497
  v1498.toNat
def k0_dev70 (d0 : Dev nD) : Nat :=
  let c0_i32_1369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1364 : BitVec 32 := 8#32
  let v1507 : BitVec 32 := Scalar.addi v2 c8_i32_1364
  let c32_i32_1365 : BitVec 32 := 32#32
  let v1508 : BitVec 32 := Scalar.remsi v1507 c32_i32_1365
  let c1_i32_1368 : BitVec 32 := 1#32
  let v1509 : BitVec 32 := Scalar.muli v1508 c1_i32_1368
  let v1510 : BitVec 32 := Scalar.addi c0_i32_1369 v1509
  v1510.toNat
def k0_dev71 (d0 : Dev nD) : Nat :=
  let c0_i32_1379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1374 : BitVec 32 := 9#32
  let v1519 : BitVec 32 := Scalar.addi v2 c9_i32_1374
  let c32_i32_1375 : BitVec 32 := 32#32
  let v1520 : BitVec 32 := Scalar.remsi v1519 c32_i32_1375
  let c1_i32_1378 : BitVec 32 := 1#32
  let v1521 : BitVec 32 := Scalar.muli v1520 c1_i32_1378
  let v1522 : BitVec 32 := Scalar.addi c0_i32_1379 v1521
  v1522.toNat
def k0_dev72 (d0 : Dev nD) : Nat :=
  let c0_i32_1389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1384 : BitVec 32 := 10#32
  let v1531 : BitVec 32 := Scalar.addi v2 c10_i32_1384
  let c32_i32_1385 : BitVec 32 := 32#32
  let v1532 : BitVec 32 := Scalar.remsi v1531 c32_i32_1385
  let c1_i32_1388 : BitVec 32 := 1#32
  let v1533 : BitVec 32 := Scalar.muli v1532 c1_i32_1388
  let v1534 : BitVec 32 := Scalar.addi c0_i32_1389 v1533
  v1534.toNat
def k0_dev73 (d0 : Dev nD) : Nat :=
  let c0_i32_1399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1394 : BitVec 32 := 11#32
  let v1543 : BitVec 32 := Scalar.addi v2 c11_i32_1394
  let c32_i32_1395 : BitVec 32 := 32#32
  let v1544 : BitVec 32 := Scalar.remsi v1543 c32_i32_1395
  let c1_i32_1398 : BitVec 32 := 1#32
  let v1545 : BitVec 32 := Scalar.muli v1544 c1_i32_1398
  let v1546 : BitVec 32 := Scalar.addi c0_i32_1399 v1545
  v1546.toNat
def k0_dev74 (d0 : Dev nD) : Nat :=
  let c0_i32_1409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1404 : BitVec 32 := 12#32
  let v1555 : BitVec 32 := Scalar.addi v2 c12_i32_1404
  let c32_i32_1405 : BitVec 32 := 32#32
  let v1556 : BitVec 32 := Scalar.remsi v1555 c32_i32_1405
  let c1_i32_1408 : BitVec 32 := 1#32
  let v1557 : BitVec 32 := Scalar.muli v1556 c1_i32_1408
  let v1558 : BitVec 32 := Scalar.addi c0_i32_1409 v1557
  v1558.toNat
def k0_dev75 (d0 : Dev nD) : Nat :=
  let c0_i32_1419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1414 : BitVec 32 := 13#32
  let v1567 : BitVec 32 := Scalar.addi v2 c13_i32_1414
  let c32_i32_1415 : BitVec 32 := 32#32
  let v1568 : BitVec 32 := Scalar.remsi v1567 c32_i32_1415
  let c1_i32_1418 : BitVec 32 := 1#32
  let v1569 : BitVec 32 := Scalar.muli v1568 c1_i32_1418
  let v1570 : BitVec 32 := Scalar.addi c0_i32_1419 v1569
  v1570.toNat
def k0_dev76 (d0 : Dev nD) : Nat :=
  let c0_i32_1429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1424 : BitVec 32 := 14#32
  let v1579 : BitVec 32 := Scalar.addi v2 c14_i32_1424
  let c32_i32_1425 : BitVec 32 := 32#32
  let v1580 : BitVec 32 := Scalar.remsi v1579 c32_i32_1425
  let c1_i32_1428 : BitVec 32 := 1#32
  let v1581 : BitVec 32 := Scalar.muli v1580 c1_i32_1428
  let v1582 : BitVec 32 := Scalar.addi c0_i32_1429 v1581
  v1582.toNat
def k0_dev77 (d0 : Dev nD) : Nat :=
  let c0_i32_1439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1434 : BitVec 32 := 15#32
  let v1591 : BitVec 32 := Scalar.addi v2 c15_i32_1434
  let c32_i32_1435 : BitVec 32 := 32#32
  let v1592 : BitVec 32 := Scalar.remsi v1591 c32_i32_1435
  let c1_i32_1438 : BitVec 32 := 1#32
  let v1593 : BitVec 32 := Scalar.muli v1592 c1_i32_1438
  let v1594 : BitVec 32 := Scalar.addi c0_i32_1439 v1593
  v1594.toNat
def k0_dev78 (d0 : Dev nD) : Nat :=
  let c0_i32_1449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1444 : BitVec 32 := 16#32
  let v1603 : BitVec 32 := Scalar.addi v2 c16_i32_1444
  let c32_i32_1445 : BitVec 32 := 32#32
  let v1604 : BitVec 32 := Scalar.remsi v1603 c32_i32_1445
  let c1_i32_1448 : BitVec 32 := 1#32
  let v1605 : BitVec 32 := Scalar.muli v1604 c1_i32_1448
  let v1606 : BitVec 32 := Scalar.addi c0_i32_1449 v1605
  v1606.toNat
def k0_dev79 (d0 : Dev nD) : Nat :=
  let c0_i32_1459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1454 : BitVec 32 := 17#32
  let v1615 : BitVec 32 := Scalar.addi v2 c17_i32_1454
  let c32_i32_1455 : BitVec 32 := 32#32
  let v1616 : BitVec 32 := Scalar.remsi v1615 c32_i32_1455
  let c1_i32_1458 : BitVec 32 := 1#32
  let v1617 : BitVec 32 := Scalar.muli v1616 c1_i32_1458
  let v1618 : BitVec 32 := Scalar.addi c0_i32_1459 v1617
  v1618.toNat
def k0_dev80 (d0 : Dev nD) : Nat :=
  let c0_i32_1469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1464 : BitVec 32 := 18#32
  let v1627 : BitVec 32 := Scalar.addi v2 c18_i32_1464
  let c32_i32_1465 : BitVec 32 := 32#32
  let v1628 : BitVec 32 := Scalar.remsi v1627 c32_i32_1465
  let c1_i32_1468 : BitVec 32 := 1#32
  let v1629 : BitVec 32 := Scalar.muli v1628 c1_i32_1468
  let v1630 : BitVec 32 := Scalar.addi c0_i32_1469 v1629
  v1630.toNat
def k0_dev81 (d0 : Dev nD) : Nat :=
  let c0_i32_1479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1474 : BitVec 32 := 19#32
  let v1639 : BitVec 32 := Scalar.addi v2 c19_i32_1474
  let c32_i32_1475 : BitVec 32 := 32#32
  let v1640 : BitVec 32 := Scalar.remsi v1639 c32_i32_1475
  let c1_i32_1478 : BitVec 32 := 1#32
  let v1641 : BitVec 32 := Scalar.muli v1640 c1_i32_1478
  let v1642 : BitVec 32 := Scalar.addi c0_i32_1479 v1641
  v1642.toNat
def k0_dev82 (d0 : Dev nD) : Nat :=
  let c0_i32_1489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1484 : BitVec 32 := 20#32
  let v1651 : BitVec 32 := Scalar.addi v2 c20_i32_1484
  let c32_i32_1485 : BitVec 32 := 32#32
  let v1652 : BitVec 32 := Scalar.remsi v1651 c32_i32_1485
  let c1_i32_1488 : BitVec 32 := 1#32
  let v1653 : BitVec 32 := Scalar.muli v1652 c1_i32_1488
  let v1654 : BitVec 32 := Scalar.addi c0_i32_1489 v1653
  v1654.toNat
def k0_dev83 (d0 : Dev nD) : Nat :=
  let c0_i32_1499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1494 : BitVec 32 := 21#32
  let v1663 : BitVec 32 := Scalar.addi v2 c21_i32_1494
  let c32_i32_1495 : BitVec 32 := 32#32
  let v1664 : BitVec 32 := Scalar.remsi v1663 c32_i32_1495
  let c1_i32_1498 : BitVec 32 := 1#32
  let v1665 : BitVec 32 := Scalar.muli v1664 c1_i32_1498
  let v1666 : BitVec 32 := Scalar.addi c0_i32_1499 v1665
  v1666.toNat
def k0_dev84 (d0 : Dev nD) : Nat :=
  let c0_i32_1509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1504 : BitVec 32 := 22#32
  let v1675 : BitVec 32 := Scalar.addi v2 c22_i32_1504
  let c32_i32_1505 : BitVec 32 := 32#32
  let v1676 : BitVec 32 := Scalar.remsi v1675 c32_i32_1505
  let c1_i32_1508 : BitVec 32 := 1#32
  let v1677 : BitVec 32 := Scalar.muli v1676 c1_i32_1508
  let v1678 : BitVec 32 := Scalar.addi c0_i32_1509 v1677
  v1678.toNat
def k0_dev85 (d0 : Dev nD) : Nat :=
  let c0_i32_1519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1514 : BitVec 32 := 23#32
  let v1687 : BitVec 32 := Scalar.addi v2 c23_i32_1514
  let c32_i32_1515 : BitVec 32 := 32#32
  let v1688 : BitVec 32 := Scalar.remsi v1687 c32_i32_1515
  let c1_i32_1518 : BitVec 32 := 1#32
  let v1689 : BitVec 32 := Scalar.muli v1688 c1_i32_1518
  let v1690 : BitVec 32 := Scalar.addi c0_i32_1519 v1689
  v1690.toNat
def k0_dev86 (d0 : Dev nD) : Nat :=
  let c0_i32_1529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1524 : BitVec 32 := 24#32
  let v1699 : BitVec 32 := Scalar.addi v2 c24_i32_1524
  let c32_i32_1525 : BitVec 32 := 32#32
  let v1700 : BitVec 32 := Scalar.remsi v1699 c32_i32_1525
  let c1_i32_1528 : BitVec 32 := 1#32
  let v1701 : BitVec 32 := Scalar.muli v1700 c1_i32_1528
  let v1702 : BitVec 32 := Scalar.addi c0_i32_1529 v1701
  v1702.toNat
def k0_dev87 (d0 : Dev nD) : Nat :=
  let c0_i32_1539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1534 : BitVec 32 := 25#32
  let v1711 : BitVec 32 := Scalar.addi v2 c25_i32_1534
  let c32_i32_1535 : BitVec 32 := 32#32
  let v1712 : BitVec 32 := Scalar.remsi v1711 c32_i32_1535
  let c1_i32_1538 : BitVec 32 := 1#32
  let v1713 : BitVec 32 := Scalar.muli v1712 c1_i32_1538
  let v1714 : BitVec 32 := Scalar.addi c0_i32_1539 v1713
  v1714.toNat
def k0_dev88 (d0 : Dev nD) : Nat :=
  let c0_i32_1549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1544 : BitVec 32 := 26#32
  let v1723 : BitVec 32 := Scalar.addi v2 c26_i32_1544
  let c32_i32_1545 : BitVec 32 := 32#32
  let v1724 : BitVec 32 := Scalar.remsi v1723 c32_i32_1545
  let c1_i32_1548 : BitVec 32 := 1#32
  let v1725 : BitVec 32 := Scalar.muli v1724 c1_i32_1548
  let v1726 : BitVec 32 := Scalar.addi c0_i32_1549 v1725
  v1726.toNat
def k0_dev89 (d0 : Dev nD) : Nat :=
  let c0_i32_1559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1554 : BitVec 32 := 27#32
  let v1735 : BitVec 32 := Scalar.addi v2 c27_i32_1554
  let c32_i32_1555 : BitVec 32 := 32#32
  let v1736 : BitVec 32 := Scalar.remsi v1735 c32_i32_1555
  let c1_i32_1558 : BitVec 32 := 1#32
  let v1737 : BitVec 32 := Scalar.muli v1736 c1_i32_1558
  let v1738 : BitVec 32 := Scalar.addi c0_i32_1559 v1737
  v1738.toNat
def k0_dev90 (d0 : Dev nD) : Nat :=
  let c0_i32_1569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1564 : BitVec 32 := 28#32
  let v1747 : BitVec 32 := Scalar.addi v2 c28_i32_1564
  let c32_i32_1565 : BitVec 32 := 32#32
  let v1748 : BitVec 32 := Scalar.remsi v1747 c32_i32_1565
  let c1_i32_1568 : BitVec 32 := 1#32
  let v1749 : BitVec 32 := Scalar.muli v1748 c1_i32_1568
  let v1750 : BitVec 32 := Scalar.addi c0_i32_1569 v1749
  v1750.toNat
def k0_dev91 (d0 : Dev nD) : Nat :=
  let c0_i32_1579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1574 : BitVec 32 := 29#32
  let v1759 : BitVec 32 := Scalar.addi v2 c29_i32_1574
  let c32_i32_1575 : BitVec 32 := 32#32
  let v1760 : BitVec 32 := Scalar.remsi v1759 c32_i32_1575
  let c1_i32_1578 : BitVec 32 := 1#32
  let v1761 : BitVec 32 := Scalar.muli v1760 c1_i32_1578
  let v1762 : BitVec 32 := Scalar.addi c0_i32_1579 v1761
  v1762.toNat
def k0_dev92 (d0 : Dev nD) : Nat :=
  let c0_i32_1589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1584 : BitVec 32 := 30#32
  let v1771 : BitVec 32 := Scalar.addi v2 c30_i32_1584
  let c32_i32_1585 : BitVec 32 := 32#32
  let v1772 : BitVec 32 := Scalar.remsi v1771 c32_i32_1585
  let c1_i32_1588 : BitVec 32 := 1#32
  let v1773 : BitVec 32 := Scalar.muli v1772 c1_i32_1588
  let v1774 : BitVec 32 := Scalar.addi c0_i32_1589 v1773
  v1774.toNat
def k0_dev93 (d0 : Dev nD) : Nat :=
  let c0_i32_1599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1594 : BitVec 32 := 31#32
  let v1783 : BitVec 32 := Scalar.addi v2 c31_i32_1594
  let c32_i32_1595 : BitVec 32 := 32#32
  let v1784 : BitVec 32 := Scalar.remsi v1783 c32_i32_1595
  let c1_i32_1598 : BitVec 32 := 1#32
  let v1785 : BitVec 32 := Scalar.muli v1784 c1_i32_1598
  let v1786 : BitVec 32 := Scalar.addi c0_i32_1599 v1785
  v1786.toNat
abbrev stage0_0 : Fin 1 → Memref sig .tc .vmem S512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x512x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x16x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x16384 : Shape := ⟨2, ![768, 16384]⟩
abbrev S16384x768 : Shape := ⟨2, ![16384, 768]⟩
abbrev S2x512x256x64 : Shape := ⟨4, ![2, 512, 256, 64]⟩
abbrev S2x256x16384 : Shape := ⟨3, ![2, 256, 16384]⟩
abbrev S2x256x256x64 : Shape := ⟨4, ![2, 256, 256, 64]⟩
abbrev S_ : Shape := ⟨0, ![]⟩
abbrev S2x256x256x1 : Shape := ⟨4, ![2, 256, 256, 1]⟩
abbrev S2x256x256x512 : Shape := ⟨4, ![2, 256, 256, 512]⟩
abbrev S2x256x256 : Shape := ⟨3, ![2, 256, 256]⟩
abbrev S2x256x64x256 : Shape := ⟨4, ![2, 256, 64, 256]⟩

abbrev nBuf : Space → Nat
  | .hbm => 47
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S768x16384, .bf16⟩
  | .hbm, ⟨2, _⟩ => ⟨S16384x768, .bf16⟩
  | .hbm, ⟨3, _⟩ => ⟨S2x512x256x64, .bf16⟩
  | .hbm, ⟨4, _⟩ => ⟨S2x512x256x64, .bf16⟩
  | .hbm, ⟨5, _⟩ => ⟨S2x256x16384, .f32⟩
  | .hbm, ⟨6, _⟩ => ⟨S2x256x16384, .bf16⟩
  | .hbm, ⟨7, _⟩ => ⟨S2x256x256x64, .bf16⟩
  | .hbm, ⟨8, _⟩ => ⟨S_, .f32⟩
  | .hbm, ⟨9, _⟩ => ⟨S2x256x256x64, .f32⟩
  | .hbm, ⟨10, _⟩ => ⟨S_, .f32⟩
  | .hbm, ⟨11, _⟩ => ⟨S2x256x256x1, .f32⟩
  | .hbm, ⟨12, _⟩ => ⟨S_, .f32⟩
  | .hbm, ⟨13, _⟩ => ⟨S2x256x256x1, .f32⟩
  | .hbm, ⟨14, _⟩ => ⟨S2x256x256x512, .f32⟩
  | .hbm, ⟨15, _⟩ => ⟨S2x256x256x512, .bf16⟩
  | .hbm, ⟨16, _⟩ => ⟨S2x256x256x512, .f32⟩
  | .hbm, ⟨17, _⟩ => ⟨S_, .f32⟩
  | .hbm, ⟨18, _⟩ => ⟨S2x256x256x512, .f32⟩
  | .hbm, ⟨19, _⟩ => ⟨S2x256x256x512, .f32⟩
  | .hbm, ⟨20, _⟩ => ⟨S_, .f32⟩
  | .hbm, ⟨21, _⟩ => ⟨S2x256x256, .f32⟩
  | .hbm, ⟨22, _⟩ => ⟨S2x256x256x1, .f32⟩
  | .hbm, ⟨23, _⟩ => ⟨S2x256x256x1, .f32⟩
  | .hbm, ⟨24, _⟩ => ⟨S2x256x256x1, .f32⟩
  | .hbm, ⟨25, _⟩ => ⟨S2x256x256x1, .f32⟩
  | .hbm, ⟨26, _⟩ => ⟨S2x256x256x512, .f32⟩
  | .hbm, ⟨27, _⟩ => ⟨S2x256x256x512, .f32⟩
  | .hbm, ⟨28, _⟩ => ⟨S2x256x256x512, .f32⟩
  | .hbm, ⟨29, _⟩ => ⟨S2x256x256x1, .f32⟩
  | .hbm, ⟨30, _⟩ => ⟨S_, .f32⟩
  | .hbm, ⟨31, _⟩ => ⟨S2x256x256, .f32⟩
  | .hbm, ⟨32, _⟩ => ⟨S2x256x256x1, .f32⟩
  | .hbm, ⟨33, _⟩ => ⟨S2x256x256x1, .f32⟩
  | .hbm, ⟨34, _⟩ => ⟨S2x256x256x1, .f32⟩
  | .hbm, ⟨35, _⟩ => ⟨S2x256x256x64, .f32⟩
  | .hbm, ⟨36, _⟩ => ⟨S2x256x256x64, .f32⟩
  | .hbm, ⟨37, _⟩ => ⟨S2x512x256x64, .f32⟩
  | .hbm, ⟨38, _⟩ => ⟨S2x256x64x256, .f32⟩
  | .hbm, ⟨39, _⟩ => ⟨S2x256x256x64, .f32⟩
  | .hbm, ⟨40, _⟩ => ⟨S2x256x256x64, .f32⟩
  | .hbm, ⟨41, _⟩ => ⟨S2x256x256x1, .f32⟩
  | .hbm, ⟨42, _⟩ => ⟨S2x256x256x64, .f32⟩
  | .hbm, ⟨43, _⟩ => ⟨S2x256x256x64, .f32⟩
  | .hbm, ⟨44, _⟩ => ⟨S2x256x16384, .f32⟩
  | .hbm, ⟨45, _⟩ => ⟨S16384x768, .f32⟩
  | .hbm, ⟨46, _⟩ => ⟨S2x256x768, .f32⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Shape.lean ====
/-
  The shape of the kernel's body: what each device does is the attention and projection on its own heads, two
  stores of the product, and then six stretches of 31 like operations (the signals, the copies of the first
  exchange and their waits, the copies of the second exchange and their waits) around one barrier wait and one sum.
  `body_eq` reads the printed body, cut into parts by position, as that.
-/
module

public import proofs.«01_k».proof.Proof.Gen.KernelIdeal.Skeleton
public import proofs.«01_k».proof.Proof.Gen.KernelIdeal.Points

@[expose] public section

noncomputable section

namespace Cert.Proof

open Cert.KernelIdeal Cert.KernelIdeal.Gen
open Idealize.ShloMosaic
open Idealize.ShloMosaic.TcCoe
open Idealize.SL Idealize.SL.Sem

variable {F : FTy → Type} [FloatOps F]

/-! ## The buffers of the body -/

abbrev oM : Memref sig .tc .vmem S512x512 .bf16 := Memref.whole cc0_scratch0
abbrev partM : Memref sig .tc .vmem S32x16x768 .f32 := Memref.whole cc0_scratch1
abbrev convM : Memref sig .tc .vmem S32x16x768 .bf16 := Memref.whole cc0_scratch2
abbrev rsM : Memref sig .tc .vmem S32x16x768 .bf16 := Memref.whole cc0_scratch3
abbrev agM : Memref sig .tc .vmem S32x16x768 .bf16 := Memref.whole cc0_scratch4
abbrev outM : Memref sig .tc .vmem S32x16x768 .f32 := Memref.whole cc0_stg5_0

/-- The 31 other devices, by how far on they are, less one. -/
def others : List (Fin 31) :=
  [0, 1, 2, 3, 4, 5, 6, 7, 8, 9, 10, 11, 12, 13, 14, 15, 16, 17, 18, 19, 20, 21, 22, 23, 24, 25, 26, 27, 28, 29, 30]
/-- The 16 pairs of a batch and a local head, numbered batch first. -/
def heads : List (Fin 16) := [0, 1, 2, 3, 4, 5, 6, 7, 8, 9, 10, 11, 12, 13, 14, 15]

theorem slot_inb (j : ℕ) (h : j < 32) : ∀ a, (![j, 0, 0] : Fin 3 → Nat) a + S1x16x768.size a ≤ S32x16x768.size a := by
  intro a; fin_cases a
  · show j + 1 ≤ 32; omega
  · show 0 + 16 ≤ 16; omega
  · show 0 + 768 ≤ 768; omega
theorem sem_inb (j : ℕ) (h : j < 32) : ∀ a, (![j] : Fin 1 → Nat) a + S1.size a ≤ S32.size a := by
  intro a; fin_cases a; show j + 1 ≤ 32; omega

theorem lt_of_shift (d : Fin 31) : 1 + d.val < 32 := by omega

/-- Entry `j` of one of the kernel's four arrays of semaphores. -/
abbrev semAt (a : DmaSems sig S32) (j : ℕ) (h : j < 32) : DmaSem sig :=
  ((a.slice (Rect.unit (s := S32) ![j] S1.size (sem_inb j h))).squeeze S_ squeezes_S1_S_).sem

/-- Slot `j` of the buffer the first exchange lands in. -/
abbrev rsV (j : ℕ) (h : j < 32) : Memref sig .tc .vmem S16x768 .bf16 :=
  (rsM.slice (Rect.unit (s := S32x16x768) ![j, 0, 0] S1x16x768.size (slot_inb j h)) (fun _ => rfl)).squeeze S16x768 squeezes_S1x16x768_S16x768
/-- The block of the product that device `c` keeps for the device `d + 1` on. -/
abbrev convV (c : Dev nD) (d : Fin 31) : Memref sig .tc .vmem S16x768 .bf16 :=
  (convM.slice (Rect.unit (s := S32x16x768) (k0_off1 c (BitVec.ofNat 32 (1 + d.val))) S1x16x768.size (k0_off1_inb c d)) (fun _ => rfl)).squeeze S16x768 squeezes_S1x16x768_S16x768
/-- Device `c`'s own slot of the buffer the second exchange lands in. -/
abbrev agV (c : Dev nD) : Memref sig .tc .vmem S16x768 .bf16 :=
  (agM.slice (Rect.unit (s := S32x16x768) (k0_off3 c) S1x16x768.size (k0_off3_inb c)) (fun _ => rfl)).squeeze S16x768 squeezes_S1x16x768_S16x768

theorem rs_words (j : ℕ) (h : j < 32) : (Rect.unit (s := S32x16x768) ![j, 0, 0] S1x16x768.size (slot_inb j h)).WholeWords (EltTy.packing .bf16) := by
  have key : ∀ j : Fin 32, (Rect.unit (s := S32x16x768) ![j.val, 0, 0] S1x16x768.size (slot_inb j.val j.isLt)).WholeWords (EltTy.packing .bf16) := by decide
  exact key ⟨j, h⟩

theorem rs_exact (j : ℕ) (h : j < 32) : (rsV j h).view.WordExact :=
  (((Memref.isWhole_whole cc0_scratch3).wordExact_slice rfl _ (rs_words j h)).reshape _ _)
theorem conv_exact (c : Dev nD) (d : Fin 31) : (convV c d).view.WordExact :=
  (((Memref.isWhole_whole cc0_scratch2).wordExact_slice rfl _ (k0_off1_wordsbf16 c d)).reshape _ _)
theorem ag_exact (c : Dev nD) : (agV c).view.WordExact :=
  (((Memref.isWhole_whole cc0_scratch4).wordExact_slice rfl _ (k0_off3_wordsbf16 c)).reshape _ _)

/-! ## The six stretches -/

/-- One operation for each member of a list, in the list's order, and then the rest. -/
def runL (e : Fin 31 → TpuEff nD τ sig (Elt F) Λ₀ .tc PUnit) :
    List (Fin 31) → Prog (TpuEff nD τ sig (Elt F) Λ₀ .tc) PUnit → Prog (TpuEff nD τ sig (Elt F) Λ₀ .tc) PUnit
  | [], k => k
  | d :: l, k => .op (e d) fun _ => runL e l k

/-- The device the printed text signals, and copies to, by how far on it is: three printings of one number. -/
def sigTo (c : Dev nD) : Fin 31 → Dev nD :=
  ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩,
    ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩,
    ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩,
    ⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩,
    ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩,
    ⟨k0_dev31 c, k0_dev31_lt c⟩]
def rsTo (c : Dev nD) : Fin 31 → Dev nD :=
  ![⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩,
    ⟨k0_dev37 c, k0_dev37_lt c⟩, ⟨k0_dev38 c, k0_dev38_lt c⟩, ⟨k0_dev39 c, k0_dev39_lt c⟩, ⟨k0_dev40 c, k0_dev40_lt c⟩, ⟨k0_dev41 c, k0_dev41_lt c⟩,
    ⟨k0_dev42 c, k0_dev42_lt c⟩, ⟨k0_dev43 c, k0_dev43_lt c⟩, ⟨k0_dev44 c, k0_dev44_lt c⟩, ⟨k0_dev45 c, k0_dev45_lt c⟩, ⟨k0_dev46 c, k0_dev46_lt c⟩,
    ⟨k0_dev47 c, k0_dev47_lt c⟩, ⟨k0_dev48 c, k0_dev48_lt c⟩, ⟨k0_dev49 c, k0_dev49_lt c⟩, ⟨k0_dev50 c, k0_dev50_lt c⟩, ⟨k0_dev51 c, k0_dev51_lt c⟩,
    ⟨k0_dev52 c, k0_dev52_lt c⟩, ⟨k0_dev53 c, k0_dev53_lt c⟩, ⟨k0_dev54 c, k0_dev54_lt c⟩, ⟨k0_dev55 c, k0_dev55_lt c⟩, ⟨k0_dev56 c, k0_dev56_lt c⟩,
    ⟨k0_dev57 c, k0_dev57_lt c⟩, ⟨k0_dev58 c, k0_dev58_lt c⟩, ⟨k0_dev59 c, k0_dev59_lt c⟩, ⟨k0_dev60 c, k0_dev60_lt c⟩, ⟨k0_dev61 c, k0_dev61_lt c⟩,
    ⟨k0_dev62 c, k0_dev62_lt c⟩]
def agTo (c : Dev nD) : Fin 31 → Dev nD :=
  ![⟨k0_dev63 c, k0_dev63_lt c⟩, ⟨k0_dev64 c, k0_dev64_lt c⟩, ⟨k0_dev65 c, k0_dev65_lt c⟩, ⟨k0_dev66 c, k0_dev66_lt c⟩, ⟨k0_dev67 c, k0_dev67_lt c⟩,
    ⟨k0_dev68 c, k0_dev68_lt c⟩, ⟨k0_dev69 c, k0_dev69_lt c⟩, ⟨k0_dev70 c, k0_dev70_lt c⟩, ⟨k0_dev71 c, k0_dev71_lt c⟩, ⟨k0_dev72 c, k0_dev72_lt c⟩,
    ⟨k0_dev73 c, k0_dev73_lt c⟩, ⟨k0_dev74 c, k0_dev74_lt c⟩, ⟨k0_dev75 c, k0_dev75_lt c⟩, ⟨k0_dev76 c, k0_dev76_lt c⟩, ⟨k0_dev77 c, k0_dev77_lt c⟩,
    ⟨k0_dev78 c, k0_dev78_lt c⟩, ⟨k0_dev79 c, k0_dev79_lt c⟩, ⟨k0_dev80 c, k0_dev80_lt c⟩, ⟨k0_dev81 c, k0_dev81_lt c⟩, ⟨k0_dev82 c, k0_dev82_lt c⟩,
    ⟨k0_dev83 c, k0_dev83_lt c⟩, ⟨k0_dev84 c, k0_dev84_lt c⟩, ⟨k0_dev85 c, k0_dev85_lt c⟩, ⟨k0_dev86 c, k0_dev86_lt c⟩, ⟨k0_dev87 c, k0_dev87_lt c⟩,
    ⟨k0_dev88 c, k0_dev88_lt c⟩, ⟨k0_dev89 c, k0_dev89_lt c⟩, ⟨k0_dev90 c, k0_dev90_lt c⟩, ⟨k0_dev91 c, k0_dev91_lt c⟩, ⟨k0_dev92 c, k0_dev92_lt c⟩,
    ⟨k0_dev93 c, k0_dev93_lt c⟩]

abbrev eSig (c : Dev nD) (d : Fin 31) : TpuEff nD τ sig (Elt F) Λ₀ .tc PUnit := .semSignal (Dev.tc (sigTo c d)) barrier0 1
abbrev eRs (c : Dev nD) (d : Fin 31) : TpuEff nD τ sig (Elt F) Λ₀ .tc PUnit :=
  .enqueueDma (convV c d) (.remote (Dev.tc (rsTo c d)) (rsV (1 + d.rev.val) (lt_of_shift d.rev)) (.dma (semAt cc0_scratch5 (1 + d.val) (lt_of_shift d)))) (.dma (semAt cc0_scratch6 (1 + d.rev.val) (lt_of_shift d.rev)))
    (conv_exact c d) (rs_exact (1 + d.rev.val) (lt_of_shift d.rev)) ⟨⟨rfl, Or.inl rfl⟩, trivial⟩
abbrev eRsRecv (c : Dev nD) (d : Fin 31) : TpuEff nD τ sig (Elt F) Λ₀ .tc PUnit :=
  .waitDma2 (semAt cc0_scratch6 (1 + d.rev.val) (lt_of_shift d.rev)) (convV c d) (rsV (1 + d.rev.val) (lt_of_shift d.rev)) (conv_exact c d) (rs_exact (1 + d.rev.val) (lt_of_shift d.rev))
abbrev eRsSend (c : Dev nD) (d : Fin 31) : TpuEff nD τ sig (Elt F) Λ₀ .tc PUnit :=
  .waitDma2 (semAt cc0_scratch5 (1 + d.val) (lt_of_shift d)) (rsV (1 + d.rev.val) (lt_of_shift d.rev)) (convV c d) (rs_exact (1 + d.rev.val) (lt_of_shift d.rev)) (conv_exact c d)
abbrev eAg (c : Dev nD) (d : Fin 31) : TpuEff nD τ sig (Elt F) Λ₀ .tc PUnit :=
  .enqueueDma (agV c) (.remote (Dev.tc (agTo c d)) (agV c) (.dma (semAt cc0_scratch7 (1 + d.val) (lt_of_shift d)))) (.dma (semAt cc0_scratch8 (1 + d.rev.val) (lt_of_shift d.rev)))
    (ag_exact c) (ag_exact c) ⟨⟨rfl, Or.inl rfl⟩, trivial⟩
abbrev eAgRecv (c : Dev nD) (d : Fin 31) : TpuEff nD τ sig (Elt F) Λ₀ .tc PUnit :=
  .waitDma2 (semAt cc0_scratch8 (1 + d.rev.val) (lt_of_shift d.rev)) (agV c) (agV c) (ag_exact c) (ag_exact c)
abbrev eAgSend (c : Dev nD) (d : Fin 31) : TpuEff nD τ sig (Elt F) Λ₀ .tc PUnit :=
  .waitDma2 (semAt cc0_scratch7 (1 + d.val) (lt_of_shift d)) (agV c) (agV c) (ag_exact c) (ag_exact c)

/-! ## The first part: attention on the device's own heads and the projection -/

theorem head_inb (i : Fin 16) : ∀ a, (![i.val / 8, i.val % 8, 0, 0] : Fin 4 → Nat) a + S1x1x512x64.size a ≤ S2x8x512x64.size a := by
  intro a; fin_cases a
  · show i.val / 8 + 1 ≤ 2; omega
  · show i.val % 8 + 1 ≤ 8; omega
  · show 0 + 512 ≤ 512; omega
  · show 0 + 64 ≤ 64; omega
theorem blk_inb (i : Fin 16) : ∀ a, (![i.val / 8 * 256, i.val % 8 * 64] : Fin 2 → Nat) a + S256x64.size a ≤ S512x512.size a := by
  intro a; fin_cases a
  · show i.val / 8 * 256 + 256 ≤ 512; omega
  · show i.val % 8 * 64 + 64 ≤ 512; omega
theorem blk_slices (i : Fin 16) : S512x512.Slices ![i.val / 8 * 256, i.val % 8 * 64] S256x64 := by
  revert i; decide
theorem blk_packed (i : Fin 16) : (Rect.unit (s := S512x512) ![i.val / 8 * 256, i.val % 8 * 64] S256x64.size (blk_inb i)).PackedRows (EltTy.packing .bf16) := by
  revert i; decide

/-- Attention of one batch and one head: the scores of the 256 queries against the 512 keys, their softmax by rows
    around the row's greatest score, and the sum of the values so weighed. -/
def attn (q : FVec F S512x512 .bf16) (i : Fin 16) (k v : Vec F S1x1x512x64 .bf16) : FVec F S256x64 .bf16 :=
  have s : FVec F S256x512 .f32 := matmul dot_S256x64_S512x64_S256x512_1_1_0_0_n_n none
    (extractStridedSlice S256x64 ![i.val / 8 * 256, i.val % 8 * 64] q (blk_slices i)) (shapeCast S512x64 k shapeCasts_S1x1x512x64_S512x64) (constant S256x512 .f32 0x00000000#32)
  have m : FVec F S256 .f32 := multiReduction .maximumf [1] S256 s 0xFF800000#32 reduces_S256x512_S256 (.inl rfl) rfl
  have e : FVec F S256x512 .f32 := exp (subf s (broadcastTo S256x512 (shapeCast S256x1 m shapeCasts_S256_S256x1) broadcasts_S256x1_S256x512))
  have l : FVec F S256 .f32 := multiReduction .add [1] S256 e 0x00000000#32 reduces_S256x512_S256 (.inl rfl) rfl
  have o : FVec F S256x64 .f32 := matmul dot_S256x512_S512x64_S256x64_1_0_0_1_n_n none (truncf .bf16 e bitsLt_bf16_f32)
    (shapeCast S512x64 v shapeCasts_S1x1x512x64_S512x64) (constant S256x64 .f32 0x00000000#32)
  shapeCast S256x64 (truncf .bf16 (divf o (broadcastTo S256x64 (shapeCast S256x1 l shapeCasts_S256_S256x1) broadcasts_S256x1_S256x64)) bitsLt_bf16_f32) shapeCasts_S256x64_S256x64

/-- The blocks of attention, one after the other: read the keys, the values and the block's place, and write it. -/
def runA (q : FVec F S512x512 .bf16) : List (Fin 16) → Prog (TpuEff nD τ sig (Elt F) Λ₀ .tc) PUnit → Prog (TpuEff nD τ sig (Elt F) Λ₀ .tc) PUnit
  | [], r => r
  | i :: l, r =>
    .op (.load (Memref.whole cc0_stg3_0) (Rect.unit (s := S2x8x512x64) ![i.val / 8, i.val % 8, 0, 0] S1x1x512x64.size (head_inb i)).toLoadRect (View.loadsAt_vmem h_S1x1x512x64)) fun (k : Vec F S1x1x512x64 .bf16) =>
    .op (.load (Memref.whole cc0_stg4_0) (Rect.unit (s := S2x8x512x64) ![i.val / 8, i.val % 8, 0, 0] S1x1x512x64.size (head_inb i)).toLoadRect (View.loadsAt_vmem h_S1x1x512x64)) fun (v : Vec F S1x1x512x64 .bf16) =>
    .op (.load oM (Rect.unit (s := S512x512) ![i.val / 8 * 256, i.val % 8 * 64] S256x64.size (blk_inb i)).toLoadRect (View.loadsAt_vmem h_S256x64)) fun _ =>
    .op (.store oM (Rect.unit (s := S512x512) ![i.val / 8 * 256, i.val % 8 * 64] S256x64.size (blk_inb i)) (attn q i k v) Finset.univ
      (View.stores_vmem h_S256x64 ((Memref.isWhole_whole cc0_scratch0).storeExact_slice rfl _ (blk_packed i)) (fun _ => rfl)) (.inl rfl)) fun _ => runA q l r

/-- The blocks of the first exchange, one after the other, added to what the device has. -/
def runS (k : FVec F S16x768 .f32 → Prog (TpuEff nD τ sig (Elt F) Λ₀ .tc) PUnit) : List (Fin 31) → FVec F S16x768 .f32 → Prog (TpuEff nD τ sig (Elt F) Λ₀ .tc) PUnit
  | [], acc => k acc
  | d :: l, acc =>
    .op (.load rsM (Rect.unit (s := S32x16x768) ![1 + d.val, 0, 0] S1x16x768.size (slot_inb (1 + d.val) (lt_of_shift d))).toLoadRect (View.loadsAt_vmem h_S1x16x768)) fun (v : Vec F S1x16x768 .bf16) =>
    runS k l (addf acc (extf .f32 (shapeCast S16x768 v shapeCasts_S1x16x768_S16x768) bitsLt_bf16_f32))

/-- The body of the kernel at device `c`. -/
def bodyAtDev (c : Dev nD) : Prog (TpuEff nD τ sig (Elt F) Λ₀ .tc) PUnit :=
  .op (.load (Memref.whole cc0_stg0_0) (Rect.unit (s := S512x768) ![0, 0] S512x768.size inb_S512x768_S512x768_0_0).toLoadRect (View.loadsAt_vmem h_S512x768)) fun (x : Vec F S512x768 .bf16) =>
  .op (.load (Memref.whole cc0_stg1_0) (Rect.unit (s := S768x512) ![0, 0] S768x512.size inb_S768x512_S768x512_0_0).toLoadRect (View.loadsAt_vmem h_S768x512)) fun (wq : Vec F S768x512 .bf16) =>
  runA (k0_pay1 x wq) heads <|
  .op (.load (Memref.whole cc0_stg2_0) (Rect.unit (s := S512x768) ![0, 0] S512x768.size inb_S512x768_S512x768_0_0).toLoadRect (View.loadsAt_vmem h_S512x768)) fun (wo : Vec F S512x768 .bf16) =>
  .op (.load oM (Rect.unit (s := S512x512) ![0, 0] S512x512.size inb_S512x512_S512x512_0_0).toLoadRect (View.loadsAt_vmem h_S512x512)) fun (o : Vec F S512x512 .bf16) =>
  .op (.load partM (Rect.unit (s := S32x16x768) ![0, 0, 0] S32x16x768.size inb_S32x16x768_S32x16x768_0_0_0).toLoadRect (View.loadsAt_vmem h_S32x16x768)) fun _ =>
  .op (.store partM (Rect.unit (s := S32x16x768) ![0, 0, 0] S32x16x768.size inb_S32x16x768_S32x16x768_0_0_0) (k0_pay34 (k0_pay33 wo) o) Finset.univ (View.stores_vmem_bits_univ h_S32x16x768 rfl) (.inl rfl)) fun _ =>
  .op (.load partM (Rect.unit (s := S32x16x768) ![0, 0, 0] S32x16x768.size inb_S32x16x768_S32x16x768_0_0_0).toLoadRect (View.loadsAt_vmem h_S32x16x768)) fun (p : Vec F S32x16x768 .f32) =>
  .op (.load convM (Rect.unit (s := S32x16x768) ![0, 0, 0] S32x16x768.size inb_S32x16x768_S32x16x768_0_0_0).toLoadRect (View.loadsAt_vmem h_S32x16x768)) fun _ =>
  .op (.store convM (Rect.unit (s := S32x16x768) ![0, 0, 0] S32x16x768.size inb_S32x16x768_S32x16x768_0_0_0) (k0_pay35 p) Finset.univ
    (View.stores_vmem h_S32x16x768 ((Memref.isWhole_whole cc0_scratch2).storeExact_slice rfl _ packedbf16_S32x16x768_S32x16x768_0_0_0) (fun _ => rfl)) (.inl rfl)) fun _ =>
  runL (eSig c) others <|
  .op (.semWait barrier0 31) fun _ =>
  runL (eRs c) others <| runL (eRsRecv c) others <| runL (eRsSend c) others <|
  .op (.load partM (Rect.unit (s := S32x16x768) (k0_off2 c) S1x16x768.size (k0_off2_inb c)).toLoadRect (View.loadsAt_vmem h_S1x16x768)) fun (own : Vec F S1x16x768 .f32) =>
  runS (fun acc =>
    .op (.load agM (Rect.unit (s := S32x16x768) (k0_off2 c) S1x16x768.size (k0_off2_inb c)).toLoadRect (View.loadsAt_vmem h_S1x16x768)) fun _ =>
    .op (.store agM (Rect.unit (s := S32x16x768) (k0_off2 c) S1x16x768.size (k0_off2_inb c)) (shapeCast S1x16x768 (truncf .bf16 acc bitsLt_bf16_f32) shapeCasts_S16x768_S1x16x768) Finset.univ
      (View.stores_vmem h_S1x16x768 ((Memref.isWhole_whole cc0_scratch4).storeExact_slice rfl _ (k0_off2_packedbf16 c)) (fun _ => rfl)) (.inl rfl)) fun _ =>
    runL (eAg c) others <| runL (eAgRecv c) others <| runL (eAgSend c) others <|
    .op (.load agM (Rect.unit (s := S32x16x768) ![0, 0, 0] S32x16x768.size inb_S32x16x768_S32x16x768_0_0_0).toLoadRect (View.loadsAt_vmem h_S32x16x768)) fun (r : Vec F S32x16x768 .bf16) =>
    .op (.load outM (Rect.unit (s := S32x16x768) ![0, 0, 0] S32x16x768.size inb_S32x16x768_S32x16x768_0_0_0).toLoadRect (View.loadsAt_vmem h_S32x16x768)) fun _ =>
    .op (.store outM (Rect.unit (s := S32x16x768) ![0, 0, 0] S32x16x768.size inb_S32x16x768_S32x16x768_0_0_0) (k0_pay40 r) Finset.univ (View.stores_vmem_bits_univ h_S32x16x768 rfl) (.inl rfl)) fun _ =>
    .ret ⟨⟩) others (shapeCast S16x768 own shapeCasts_S1x16x768_S16x768)

set_option maxRecDepth 200000 in
set_option maxHeartbeats 0 in
theorem body_eq (t : Fin cfg0.N) : bodyAt0 (F := F) t = .op .deviceId fun c => bodyAtDev c := by
  rfl

end Cert.Proof

end
-- ==== Proof.Common.lean ====
/-
  The protocol of the two exchanges, stated once for every device.

  Device `c` sends to the device `d + 1` on (`nx c d`), for each of 31 values of `d`; what is sent by `d` lands in a place
  numbered by `d.rev`, because seen from the receiver the sender is `d.rev + 1` on.  There are three kinds of cells:

  * the barrier cell of a device, paid one unit by each other device, with the place its copies will land in at the payer:
    a slot of the first exchange, a slot of the second, and that the payer's two receive cells are open;
  * the two kinds of send cells, paid by the device's own copies with what was read;
  * the two kinds of receive cells, paid by the others' copies with the slot at what landed.

  The 32 slots of the first exchange are numbered by how far on the sender is, those of the second by the sender itself.
-/
module

public import proofs.«01_k».proof.Proof.Shape
public import Idealize.ShloMosaic.Lib.Pipeline.Regions
public import Idealize.ShloMosaic.Lib.Pipeline.Kit
public import Idealize.ShloMosaic.Lib.Rounds
public import Idealize.ShloMosaic.Lib.Ring
public import Idealize.ShloMosaic.Lib.StableHlo
public import Idealize.ShloMosaic.Lib.Tactic
public import Idealize.ShloMosaic.Lib.Pipeline.RegionTalk
public import Idealize.ShloMosaic.Lib.SparseCore.Stream

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Devices -/

/-- The device `d + 1` on from `c`. -/
def nx (c : Dev nD) (d : Fin 31) : Dev nD := ⟨(c.val + d.val + 1) % 32, Nat.mod_lt _ (by decide)⟩
theorem nx_val (c : Dev nD) (d : Fin 31) : (nx c d).val = (c.val + d.val + 1) % 32 := rfl
theorem nx_nx (c : Dev nD) (d : Fin 31) : nx (nx c d) d.rev = c := by
  apply Fin.ext; have hc : c.val < 32 := c.isLt
  simp only [nx_val, Fin.val_rev]; omega

/-- Sender and distance, and receiver and distance back: each from the other. -/
def mate : Dev nD × Fin 31 ≃ Dev nD × Fin 31 where
  toFun x := (nx x.1 x.2, x.2.rev)
  invFun x := (nx x.1 x.2, x.2.rev)
  left_inv x := by simp only [nx_nx, Fin.rev_rev]
  right_inv x := by simp only [nx_nx, Fin.rev_rev]

theorem sigTo_eq (c : Dev nD) (d : Fin 31) : sigTo c d = nx c d := by
  apply Fin.ext; rw [nx_val]; fin_cases d
  exacts [k0_dev1_eq c, k0_dev2_eq c, k0_dev3_eq c, k0_dev4_eq c, k0_dev5_eq c, k0_dev6_eq c, k0_dev7_eq c, k0_dev8_eq c,
    k0_dev9_eq c, k0_dev10_eq c, k0_dev11_eq c, k0_dev12_eq c, k0_dev13_eq c, k0_dev14_eq c, k0_dev15_eq c, k0_dev16_eq c,
    k0_dev17_eq c, k0_dev18_eq c, k0_dev19_eq c, k0_dev20_eq c, k0_dev21_eq c, k0_dev22_eq c, k0_dev23_eq c, k0_dev24_eq c,
    k0_dev25_eq c, k0_dev26_eq c, k0_dev27_eq c, k0_dev28_eq c, k0_dev29_eq c, k0_dev30_eq c, k0_dev31_eq c]
theorem rsTo_eq (c : Dev nD) (d : Fin 31) : rsTo c d = nx c d := by
  apply Fin.ext; rw [nx_val]; fin_cases d
  exacts [k0_dev32_eq c, k0_dev33_eq c, k0_dev34_eq c, k0_dev35_eq c, k0_dev36_eq c, k0_dev37_eq c, k0_dev38_eq c, k0_dev39_eq c,
    k0_dev40_eq c, k0_dev41_eq c, k0_dev42_eq c, k0_dev43_eq c, k0_dev44_eq c, k0_dev45_eq c, k0_dev46_eq c, k0_dev47_eq c,
    k0_dev48_eq c, k0_dev49_eq c, k0_dev50_eq c, k0_dev51_eq c, k0_dev52_eq c, k0_dev53_eq c, k0_dev54_eq c, k0_dev55_eq c,
    k0_dev56_eq c, k0_dev57_eq c, k0_dev58_eq c, k0_dev59_eq c, k0_dev60_eq c, k0_dev61_eq c, k0_dev62_eq c]
theorem agTo_eq (c : Dev nD) (d : Fin 31) : agTo c d = nx c d := by
  apply Fin.ext; rw [nx_val]; fin_cases d
  exacts [k0_dev63_eq c, k0_dev64_eq c, k0_dev65_eq c, k0_dev66_eq c, k0_dev67_eq c, k0_dev68_eq c, k0_dev69_eq c, k0_dev70_eq c,
    k0_dev71_eq c, k0_dev72_eq c, k0_dev73_eq c, k0_dev74_eq c, k0_dev75_eq c, k0_dev76_eq c, k0_dev77_eq c, k0_dev78_eq c,
    k0_dev79_eq c, k0_dev80_eq c, k0_dev81_eq c, k0_dev82_eq c, k0_dev83_eq c, k0_dev84_eq c, k0_dev85_eq c, k0_dev86_eq c,
    k0_dev87_eq c, k0_dev88_eq c, k0_dev89_eq c, k0_dev90_eq c, k0_dev91_eq c, k0_dev92_eq c, k0_dev93_eq c]

theorem others_eq : others = List.finRange 31 := by decide
theorem others_nodup : others.Nodup := by decide
theorem others_univ : (Finset.univ : Finset (Fin 31)) = others.toFinset := by decide

/-! ## Resources and cells -/

abbrev UU : Type := UR sig nD τ × URounds (GSem nD τ sig) (Fin 31)

local notation "𝕄" => MT nD τ sig Unit (Elt F) ℕ UU ℕ

abbrev EP : Emb (UR sig nD τ) (MT nD τ sig Unit (Elt F) ℕ UU ℕ) := embL
abbrev ER : Emb (URounds (GSem nD τ sig) (Fin 31)) (MT nD τ sig Unit (Elt F) ℕ UU ℕ) := embR

/-- The kernel's 128 semaphores of copies: four arrays of 32. -/
def osem (x : Fin 4 × Fin 32) : SemLoc sig := .dma ⟨6 + 32 * x.1.val + x.2.val, by
  have := x.1.isLt; have := x.2.isLt; show _ < 134; omega⟩

abbrev barCell (c : Dev nD) : GSem nD τ sig := ((c : Thread nD τ), .reg barrier0)
/-- Cell `d` of array `a` — first sends, first receives, second sends, second receives — is entry `d + 1`: entry 0 is not used. -/
abbrev dmCell (a : Fin 4) (c : Dev nD) (d : Fin 31) : GSem nD τ sig := ((c : Thread nD τ), osem (a, d.succ))

theorem sem5_eq (d : Fin 31) : (SemLoc.dma (semAt cc0_scratch5 (1 + d.val) (lt_of_shift d)) : SemLoc sig) = osem (0, d.succ) := by revert d; decide
theorem sem6_eq (d : Fin 31) : (SemLoc.dma (semAt cc0_scratch6 (1 + d.val) (lt_of_shift d)) : SemLoc sig) = osem (1, d.succ) := by revert d; decide
theorem sem7_eq (d : Fin 31) : (SemLoc.dma (semAt cc0_scratch7 (1 + d.val) (lt_of_shift d)) : SemLoc sig) = osem (2, d.succ) := by revert d; decide
theorem sem8_eq (d : Fin 31) : (SemLoc.dma (semAt cc0_scratch8 (1 + d.val) (lt_of_shift d)) : SemLoc sig) = osem (3, d.succ) := by revert d; decide

/-- What a cell is for. -/
inductive Kind where
  | bar
  | dm (a : Fin 4) (d : Fin 31)
  | no
  deriving DecidableEq

def kind : SemLoc sig → Kind
  | .reg _ => .bar
  | .dma s => if h : 6 ≤ s.val ∧ (s.val - 6) % 32 ≠ 0 then
      .dm ⟨(s.val - 6) / 32, by have : s.val < 134 := s.isLt; omega⟩ ⟨(s.val - 6) % 32 - 1, by omega⟩ else .no

theorem kind_bar (s : Sem sig) : kind (.reg s) = .bar := rfl
theorem kind_dm (a : Fin 4) (d : Fin 31) : kind (osem (a, d.succ)) = .dm a d := by revert a d; decide
theorem kind_zero (a : Fin 4) : kind (osem (a, 0)) = .no := by revert a; decide

/-- The units one copy of a block pays. -/
abbrev N : ℕ := (rsV 1 (by decide)).view.dmaCredit
theorem N_pos : 0 < N := View.dmaCredit_pos _ (by decide)

/-! ## Places -/

/-- The elements of block `j` of a buffer of 32 blocks. -/
def blockOf (j : ℕ) : Finset S32x16x768.Idx := Finset.univ.filter fun i => (i 0).val = j
theorem mem_blockOf {j : ℕ} {i : S32x16x768.Idx} : i ∈ blockOf j ↔ (i 0).val = j := by simp [blockOf]

theorem rect_block (off : Fin 3 → ℕ) (inb) (j : ℕ) (h : off = ![j, 0, 0]) :
    (Rect.unit (s := S32x16x768) off S1x16x768.size inb).set = blockOf j := by
  subst h
  ext i
  rw [mem_blockOf, Rect.mem_set_unit]
  constructor
  · intro h; have h0 := h 0
    have h1 : j ≤ (i 0).val := h0.1
    have h2 : (i 0).val < j + 1 := h0.2
    omega
  · intro h a; fin_cases a
    · exact ⟨le_of_eq h.symm, by show (i 0).val < j + 1; omega⟩
    · exact ⟨Nat.zero_le _, by show (i 1).val < 0 + 16; have : (i 1).val < 16 := (i 1).isLt; omega⟩
    · exact ⟨Nat.zero_le _, by show (i 2).val < 0 + 768; have : (i 2).val < 768 := (i 2).isLt; omega⟩

theorem rsV_set (j : ℕ) (h : j < 32) : (rsV j h).view.set = blockOf j := by
  show ((((View.whole cc0_scratch3).slice _).reshape S16x768 _).set : Finset _) = _
  rw [View.set_reshape, View.set_slice_whole]; exact rect_block _ _ j rfl
theorem convV_set (c : Dev nD) (d : Fin 31) : (convV c d).view.set = blockOf (nx c d).val := by
  show ((((View.whole cc0_scratch2).slice _).reshape S16x768 _).set : Finset _) = _
  rw [View.set_reshape, View.set_slice_whole]
  exact rect_block _ _ _ (by rw [k0_off1_eq, nx_val])
theorem agV_set (c : Dev nD) : (agV c).view.set = blockOf c.val := by
  show ((((View.whole cc0_scratch4).slice _).reshape S16x768 _).set : Finset _) = _
  rw [View.set_reshape, View.set_slice_whole]; exact rect_block _ _ _ (k0_off3_eq c)

abbrev Blocks (F : FTy → Type) : Type := Vec F S32x16x768 .bf16

/-- Slot `d + 1` of the first exchange at device `c`. -/
abbrev rsPts (c : Dev nD) (d : Fin 31) (f : Buf (Elt F) ((rsV (1 + d.val) (lt_of_shift d)).view.loc (c : Thread nD τ))) : sProp 𝕄 :=
  (rsV (1 + d.val) (lt_of_shift d)).view.loc (c : Thread nD τ) ↦[(rsV (1 + d.val) (lt_of_shift d)).view.set]{fullShare} f
/-- The block device `c` sends to the device `d + 1` on. -/
abbrev convPts (c : Dev nD) (d : Fin 31) (f : Buf (Elt F) ((convV c d).view.loc (c : Thread nD τ))) : sProp 𝕄 :=
  (convV c d).view.loc (c : Thread nD τ) ↦[(convV c d).view.set]{fullShare} f
/-- Slot `o` of the second exchange at device `c`. -/
abbrev agPts (c o : Dev nD) (q : PosShare TreeShare) (f : Buf (Elt F) ((agV o).view.loc (c : Thread nD τ))) : sProp 𝕄 :=
  (agV o).view.loc (c : Thread nD τ) ↦[(agV o).view.set]{q} f

/-- A slot of either exchange at whatever contents. -/
def rsSome (c : Dev nD) (d : Fin 31) : sProp 𝕄 := iprop(∃ f, rsPts c d f)
def agSome (c o : Dev nD) : sProp 𝕄 := iprop(∃ f, agPts c o fullShare f)
instance rsSome_storable (c : Dev nD) (d : Fin 31) : BI.Storable (upEmb : UEmb _ 𝕄) (rsSome (F := F) c d) := by
  unfold rsSome; infer_instance
instance agSome_storable (c o : Dev nD) : BI.Storable (upEmb : UEmb _ 𝕄) (agSome (F := F) c o) := by
  unfold agSome; infer_instance

/-- What lands at device `c` in the first exchange: in slot `j`, the block for `c` of the device `j` on. -/
def landed (cv : Dev nD → Blocks F) (c : Dev nD) : Blocks F := fun i =>
  cv ⟨(c.val + (i 0).val) % 32, Nat.mod_lt _ (by decide)⟩ (fun a => match a with | 0 => c | 1 => i 1 | 2 => i 2)

/-! ## The schedule -/

/-- What device `c` gets with the unit of the device `d + 1` on. -/
def barPay (c : Dev nD) (d : Fin 31) : sProp 𝕄 :=
  iprop(rsSome (nx c d) d.rev ∗ agSome (nx c d) c
    ∗ reached ER (dmCell 1 (nx c d) d.rev) 0 ∗ reached ER (dmCell 3 (nx c d) d.rev) 0)

/-- What a copy's cell is paid with. -/
def dmPay (cv : Dev nD → Blocks F) (ag : Blocks F) (c : Dev nD) (a : Fin 4) (d : Fin 31) : sProp 𝕄 :=
  match a with
  | 0 => convPts c d (cv c)
  | 1 => rsPts c d (landed cv c)
  | 2 => agPts c c (Transfers.shareTok fullShare 31 d) ag
  | 3 => agPts c (nx c d) fullShare ag

def payOf (cv : Dev nD → Blocks F) (ag : Blocks F) (c : Dev nD) (k : Kind) (d : Fin 31) : sProp 𝕄 :=
  match k with
  | .bar => barPay c d
  | .dm a e => dmPay cv ag c a e
  | .no => iprop(emp)

def dutiesOf : Kind → Finset (Fin 31)
  | .bar => Finset.univ
  | .dm _ _ => {0}
  | .no => ∅

def amountOf' : Kind → ℕ
  | .bar => 1
  | .dm _ _ => N
  | .no => 1

variable (cv : Dev nD → Blocks F) (ag : Blocks F)

/-- One round, round 0: 31 duties of a unit on a barrier cell, one duty of a block on a copy's cell. -/
def Rd : Rounds.Schedule (GSem nD τ sig) (Fin 31) 𝕄 where
  duties g r := if r = 0 ∧ g.1.2 = .tc then dutiesOf (kind g.2) else ∅
  unitless _ := False
  amount g _ _ := amountOf' (kind g.2)
  payload g _ d := payOf cv ag g.1.1 (kind g.2) d
  amount_pos g _ _ _ := by
    cases kind g.2
    exacts [Nat.one_pos, N_pos, Nat.one_pos]

instance Rd_payload_storable (g : GSem nD τ sig) (r : ℕ) (d : Fin 31) :
    BI.Storable (upEmb : UEmb _ 𝕄) ((Rd (F := F) cv ag).payload g r d) := by
  show BI.Storable upEmb (payOf cv ag g.1.1 (kind g.2) d)
  cases kind g.2 with
  | bar => show BI.Storable upEmb (barPay g.1.1 d); unfold barPay; infer_instance
  | dm a e =>
    show BI.Storable upEmb (dmPay cv ag g.1.1 a e)
    fin_cases a
    · show BI.Storable upEmb (convPts g.1.1 e (cv g.1.1)); infer_instance
    · show BI.Storable upEmb (rsPts g.1.1 e (landed cv g.1.1)); infer_instance
    · show BI.Storable upEmb (agPts g.1.1 g.1.1 (Transfers.shareTok fullShare 31 e) ag); infer_instance
    · show BI.Storable upEmb (agPts g.1.1 (nx g.1.1 e) fullShare ag); infer_instance
  | no => show BI.Storable upEmb iprop(emp); infer_instance

theorem duties_bar (c : Dev nD) : (Rd (F := F) cv ag).duties (barCell c) 0 = Finset.univ := by
  show (if (0 : ℕ) = 0 ∧ (barCell c).1.2 = .tc then dutiesOf (kind (barCell c).2) else ∅) = _
  exact if_pos ⟨rfl, rfl⟩
theorem duties_dm (a : Fin 4) (c : Dev nD) (d : Fin 31) : (Rd (F := F) cv ag).duties (dmCell a c d) 0 = {0} := by
  show (if (0 : ℕ) = 0 ∧ (dmCell a c d).1.2 = .tc then dutiesOf (kind (dmCell a c d).2) else ∅) = _
  rw [if_pos ⟨rfl, rfl⟩, kind_dm]; rfl
theorem duties_later (g : GSem nD τ sig) : ∀ r, 1 ≤ r → (Rd (F := F) cv ag).duties g r = ∅ :=
  fun r hr => if_neg fun h => by omega
theorem amount_bar (c : Dev nD) (d : Fin 31) : (Rd (F := F) cv ag).amount (barCell c) 0 d = 1 := rfl
theorem amount_dm (a : Fin 4) (c : Dev nD) (e d : Fin 31) : (Rd (F := F) cv ag).amount (dmCell a c e) 0 d = N := by
  show amountOf' (kind _) = _; rw [kind_dm]; rfl
theorem payload_bar (c : Dev nD) (d : Fin 31) : (Rd (F := F) cv ag).payload (barCell c) 0 d = barPay c d := rfl
theorem payload_dm (a : Fin 4) (c : Dev nD) (e d : Fin 31) : (Rd (F := F) cv ag).payload (dmCell a c e) 0 d = dmPay cv ag c a e := by
  show payOf _ _ _ (kind _) _ = _; rw [kind_dm]; rfl
theorem expect_bar (c : Dev nD) : (Rd (F := F) cv ag).expect (barCell c) 0 = 31 := by
  unfold Schedule.expect Schedule.amountOf
  rw [duties_bar, Finset.sum_congr rfl fun d _ => amount_bar cv ag c d, Finset.sum_const]; rfl
theorem expect_dm (a : Fin 4) (c : Dev nD) (d : Fin 31) : (Rd (F := F) cv ag).expect (dmCell a c d) 0 = N := by
  unfold Schedule.expect Schedule.amountOf; rw [duties_dm, Finset.sum_singleton, amount_dm]
theorem rest_bar (c : Dev nD) : bigSep ((Rd (F := F) cv ag).duties (barCell c) 0 \ ∅) (fun u => (Rd (F := F) cv ag).payload (barCell c) 0 u)
    = bigSep Finset.univ fun d => barPay c d := by
  rw [Finset.sdiff_empty, duties_bar]; rfl
theorem rest_dm (a : Fin 4) (c : Dev nD) (d : Fin 31) :
    bigSep ((Rd (F := F) cv ag).duties (dmCell a c d) 0 \ ∅) (fun u => (Rd (F := F) cv ag).payload (dmCell a c d) 0 u) = dmPay cv ag c a d := by
  rw [Finset.sdiff_empty, duties_dm, bigSep_singleton, payload_dm]

/-! ## What is owed, and the order of waiting -/

/-- The dues of a list of operations still to be done, the first of the list outermost. -/
def owe (f : Fin 31 → CellTallies nD τ sig Unit) : List (Fin 31) → CellTallies nD τ sig Unit → CellTallies nD τ sig Unit
  | [], R => R
  | d :: l, R => owe f l R + f d

abbrev barT (c : Dev nD) (d : Fin 31) : CellTallies nD τ sig Unit := tallyAt (barCell (nx c d)) () 1
abbrev rsT (c : Dev nD) (d : Fin 31) : CellTallies nD τ sig Unit := tallyAt (dmCell 1 (nx c d) d.rev) () N
abbrev agT (c : Dev nD) (d : Fin 31) : CellTallies nD τ sig Unit := tallyAt (dmCell 3 (nx c d) d.rev) () N

abbrev O₂ (c : Dev nD) : CellTallies nD τ sig Unit := owe (agT c) others 0
abbrev O₁ (c : Dev nD) : CellTallies nD τ sig Unit := owe (rsT c) others (O₂ c)
/-- What device `c` owes at launch: a unit to every other barrier cell, a block to a receive cell of each exchange there. -/
def O₀ (c : Dev nD) : CellTallies nD τ sig Unit := owe (barT c) others (O₁ c)

theorem owe_pos {f : Fin 31 → CellTallies nD τ sig Unit} {R : CellTallies nD τ sig Unit} {g : GSem nD τ sig} {u : Unit} :
    ∀ {l : List (Fin 31)}, 0 < owe f l R g u → (∃ d, 0 < f d g u) ∨ 0 < R g u
  | [], h => .inr h
  | d :: l, h => by
    rw [owe, Pi.add_apply, Finsupp.add_apply] at h
    rcases Nat.add_pos_iff_pos_or_pos.mp h with h | h
    · exact owe_pos h
    · exact .inl ⟨d, h⟩

theorem tally_pos {g g' : GSem nD τ sig} {u : Unit} {k : ℕ} (h : 0 < (tallyAt g () k : CellTallies nD τ sig Unit) g' u) : g' = g := by
  rw [tallyAt_apply] at h
  by_contra hn
  rw [if_neg fun h => hn h.1] at h
  exact Nat.lt_irrefl 0 h

def L (g : GSem nD τ sig) : Finset Unit := if g.1.2 = .tc then {()} else ∅
def lvOf : Kind → ℕ
  | .bar => 1
  | .dm a _ => if a = 1 then 2 else if a = 3 then 3 else 0
  | .no => 0
/-- A barrier wait before a receive of the first exchange, that before one of the second, the rest first of all. -/
def lv (g : GSem nD τ sig) (_ : Unit) : ℕ := lvOf (kind g.2)

theorem L_of_ne (g : GSem nD τ sig) (h : g.1.2 ≠ .tc) : L g = ∅ := if_neg h
theorem mem_L (c : Dev nD) (sm : SemLoc sig) (u : Unit) : u ∈ L ((c : Thread nD τ), sm) := by
  rw [show L ((c : Thread nD τ), sm) = {()} from if_pos rfl]; exact Finset.mem_singleton_self _
theorem lv_dm (a : Fin 4) (c : Dev nD) (d : Fin 31) (u : Unit) : lv (dmCell a c d) u = if a = 1 then 2 else if a = 3 then 3 else 0 := by
  unfold lv; rw [kind_dm]; rfl

theorem O₂_pos {c : Dev nD} {l : List (Fin 31)} {g : GSem nD τ sig} {u : Unit} (h : 0 < owe (agT c) l 0 g u) : u ∈ L g ∧ 2 < lv g u := by
  rcases owe_pos h with ⟨d, h⟩ | h
  · rw [tally_pos h, lv_dm]; exact ⟨mem_L _ _ _, by decide⟩
  · exact absurd h (Nat.lt_irrefl 0)
theorem O₁_pos {c : Dev nD} {l : List (Fin 31)} {g : GSem nD τ sig} {u : Unit} (h : 0 < owe (rsT c) l (O₂ c) g u) : u ∈ L g ∧ 1 < lv g u := by
  rcases owe_pos h with ⟨d, h⟩ | h
  · rw [tally_pos h, lv_dm]; exact ⟨mem_L _ _ _, by decide⟩
  · exact ⟨(O₂_pos h).1, lt_trans (by decide) (O₂_pos h).2⟩
theorem O₀_pos {c : Dev nD} {g : GSem nD τ sig} {u : Unit} (h : 0 < O₀ c g u) : u ∈ L g ∧ 0 < lv g u := by
  rcases owe_pos h with ⟨d, h⟩ | h
  · rw [tally_pos h]; exact ⟨mem_L _ _ _, by show 0 < 1; decide⟩
  · exact ⟨(O₁_pos h).1, lt_trans (by decide) (O₁_pos h).2⟩

/-- The levels, fixed from launch on. -/
@[irreducible] def levels : sProp 𝕄 := levAts L lv
instance levels_persistent : BI.Persistent (levels (F := F)) := by unfold levels; infer_instance

/-- A wait is in order when everything owed is of a higher level. -/
theorem mayWait (c : Dev nD) (sm : SemLoc sig) (O : CellTallies nD τ sig Unit) (n : ℕ) (hn : lv ((c : Thread nD τ), sm) () ≤ n)
    (hO : ∀ g u, 0 < O g u → u ∈ L g ∧ n < lv g u) : levels (F := F) ⊢ MayWait (c : Thread nD τ) sm () O := by
  unfold levels
  exact MayOwe.of_cut (L := L) (lev := lv) n (fun p hp => by rw [Finset.mem_singleton.mp hp]; exact mem_L _ _ _)
    (fun g u hg => (hO g u hg).1) (fun p hp => by rw [Finset.mem_singleton.mp hp]; exact hn) (fun g u hg => (hO g u hg).2)

end Cert.Proof

end
-- ==== Proof.Steps.lean ====
/-
  One step of each of the seven loops of operations, and the loop.

  The state a loop carries is only what the device still owes; what operation `d` takes and gives is its own.
-/
module

public import proofs.«01_k».proof.Proof.Common
public import Idealize.ShloMosaic.Lib.Pipeline.BigSepL

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The rest of the body `p` at device `c` runs and ends in `Q`. -/
abbrev wpc (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## The loop -/

/-- What device `c` owes, its waits so far whatever they are. -/
def owesE (c : Dev nD) (O : CellTallies nD τ sig Unit) : sProp 𝕄 := iprop(∃ W, owes (c : Thread nD τ) O W)

theorem wp_runL (c : Dev nD) (R : sProp 𝕄) [BI.Persistent R] (e : Fin 31 → TpuEff nD τ sig (Elt F) Λ₀ .tc PUnit)
    (O : List (Fin 31) → CellTallies nD τ sig Unit) (Φ Ψ : Fin 31 → sProp 𝕄)
    (hstep : ∀ d l (k : PUnit → Prog (TpuEff nD τ sig (Elt F) Λ₀ .tc) PUnit) (Q : PUnit → sProp 𝕄),
      iprop(R ∗ Φ d ∗ owesE c (O (d :: l)) ∗ (Ψ d ∗ owesE c (O l) -∗ wpc c (k ⟨⟩) Q)) ⊢ wpc c (.op (e d) k) Q) :
    ∀ l (k : Prog (TpuEff nD τ sig (Elt F) Λ₀ .tc) PUnit) (Q : PUnit → sProp 𝕄),
      iprop(R ∗ bigSepL l Φ ∗ owesE c (O l) ∗ (bigSepL l Ψ ∗ owesE c (O []) -∗ wpc c k Q)) ⊢ wpc c (runL e l k) Q
  | [], k, Q => by
    iintro ⟨-, -, HO, Hk⟩
    simp only [runL]
    iapply Hk
    isplitr
    · rw [bigSepL_nil]; iempintro
    · iexact HO
  | d :: l, k, Q => by
    rw [bigSepL_cons', bigSepL_cons']
    iintro ⟨#HR, ⟨Hd, Hl⟩, HO, Hk⟩
    simp only [runL]
    iapply (hstep d l (fun _ => runL e l k) Q)
    isplitr; · iexact HR
    isplitl [Hd]; · iexact Hd
    isplitl [HO]; · iexact HO
    iintro ⟨Hd, HO⟩
    iapply (wp_runL c R e O Φ Ψ hstep l k Q)
    isplitr; · iexact HR
    isplitl [Hl]; · iexact Hl
    isplitl [HO]; · iexact HO
    iintro ⟨Hl, HO⟩
    iapply Hk
    isplitl [Hd Hl]
    · isplitl [Hd]; · iexact Hd
      iexact Hl
    · iexact HO

/-- The loop over all of the others, what it takes and gives by the device. -/
theorem wp_others (c : Dev nD) (R : sProp 𝕄) [BI.Persistent R] (e : Fin 31 → TpuEff nD τ sig (Elt F) Λ₀ .tc PUnit)
    (O : List (Fin 31) → CellTallies nD τ sig Unit) (Φ Ψ : Fin 31 → sProp 𝕄)
    (hstep : ∀ d l (k : PUnit → Prog (TpuEff nD τ sig (Elt F) Λ₀ .tc) PUnit) (Q : PUnit → sProp 𝕄),
      iprop(R ∗ Φ d ∗ owesE c (O (d :: l)) ∗ (Ψ d ∗ owesE c (O l) -∗ wpc c (k ⟨⟩) Q)) ⊢ wpc c (.op (e d) k) Q)
    (k : Prog (TpuEff nD τ sig (Elt F) Λ₀ .tc) PUnit) (Q : PUnit → sProp 𝕄) :
    iprop(R ∗ bigSep Finset.univ Φ ∗ owesE c (O others)) ⊢
      iprop((bigSep Finset.univ Ψ ∗ owesE c (O []) -∗ wpc c k Q) -∗ wpc c (runL e others k) Q) := by
  rw [bigSep_univ_eq_bigSepL others others_univ others_nodup Φ, bigSep_univ_eq_bigSepL others others_univ others_nodup Ψ]
  iintro ⟨HR, Hl, HO⟩ Hk
  iapply (wp_runL c R e O Φ Ψ hstep others k Q)
  isplitl [HR]; · iexact HR
  isplitl [Hl]; · iexact Hl
  isplitl [HO]; · iexact HO
  iexact Hk

/-! ## The records -/

variable (cv : Dev nD → Blocks F) (ag : Blocks F)

def barCells : Finset (GSem nD τ sig) := Finset.univ.map ⟨fun c : Dev nD => barCell c, fun _ _ h => congrArg (fun g : GSem nD τ sig => g.1.1) h⟩
def dmCells : Finset (GSem nD τ sig) := Finset.univ.map ⟨fun x : Dev nD × Fin 4 × Fin 31 => dmCell x.2.1 x.1 x.2.2, fun x y h => by
  have h1 : x.1 = y.1 := congrArg (fun g : GSem nD τ sig => g.1.1) h
  have h2 := congrArg (fun g : GSem nD τ sig => kind g.2) h
  simp only [kind_dm] at h2
  injection h2 with ha hd
  exact Prod.ext h1 (Prod.ext ha hd)⟩

theorem mem_barCells (c : Dev nD) : barCell c ∈ barCells := Finset.mem_map.mpr ⟨c, Finset.mem_univ _, rfl⟩
theorem mem_dmCells (a : Fin 4) (c : Dev nD) (d : Fin 31) : dmCell a c d ∈ dmCells := Finset.mem_map.mpr ⟨(c, a, d), Finset.mem_univ _, rfl⟩

/-- What every device may consult from launch on: the cells' invariants under one map of names, the barrier cells open, and
    the levels. -/
def records (κ : GSem nD τ sig → ℕ) : sProp 𝕄 :=
  iprop(bigSep (barCells ∪ dmCells) (fun g => cellInv ER (Rd cv ag) (κ g) g) ∗ bigSep barCells (fun g => reached ER g 0) ∗ levels)
instance records_persistent (κ : GSem nD τ sig → ℕ) : BI.Persistent (records cv ag κ) := by unfold records; infer_instance

/-- With that a device's own cells of copies are open. -/
def opened (κ : GSem nD τ sig → ℕ) (c : Dev nD) : sProp 𝕄 :=
  iprop(records cv ag κ ∗ bigSep Finset.univ fun x : Fin 4 × Fin 31 => reached ER (dmCell x.1 c x.2) 0)
instance opened_persistent (κ : GSem nD τ sig → ℕ) (c : Dev nD) : BI.Persistent (opened cv ag κ c) := by unfold opened; infer_instance

theorem inv_bar (κ : GSem nD τ sig → ℕ) (c c' : Dev nD) : opened cv ag κ c ⊢ cellInv ER (Rd cv ag) (κ (barCell c')) (barCell c') := by
  unfold opened records
  iintro ⟨⟨H, -⟩, -⟩
  iapply (SparseCore.ent (bigSep_elim (Φ := fun g => cellInv ER (Rd cv ag) (κ g) g) (Finset.mem_union_left _ (mem_barCells c'))))
  iexact H
theorem inv_dm (κ : GSem nD τ sig → ℕ) (c : Dev nD) (a : Fin 4) (c' : Dev nD) (d : Fin 31) :
    opened cv ag κ c ⊢ cellInv ER (Rd cv ag) (κ (dmCell a c' d)) (dmCell a c' d) := by
  unfold opened records
  iintro ⟨⟨H, -⟩, -⟩
  iapply (SparseCore.ent (bigSep_elim (Φ := fun g => cellInv ER (Rd cv ag) (κ g) g) (Finset.mem_union_right _ (mem_dmCells a c' d))))
  iexact H
theorem open_bar (κ : GSem nD τ sig → ℕ) (c c' : Dev nD) : opened cv ag κ c ⊢ reached ER (barCell c') 0 := by
  unfold opened records
  iintro ⟨⟨-, H, -⟩, -⟩
  iapply (SparseCore.ent (bigSep_elim (Φ := fun g => (reached ER g 0 : sProp 𝕄)) (mem_barCells c')))
  iexact H
theorem open_dm (κ : GSem nD τ sig → ℕ) (c : Dev nD) (a : Fin 4) (d : Fin 31) : opened cv ag κ c ⊢ reached ER (dmCell a c d) 0 := by
  unfold opened
  iintro ⟨-, H⟩
  iapply (SparseCore.ent (bigSep_elim (Φ := fun x : Fin 4 × Fin 31 => (reached ER (dmCell x.1 c x.2) 0 : sProp 𝕄)) (Finset.mem_univ (a, d))))
  iexact H
theorem open_lev (κ : GSem nD τ sig → ℕ) (c : Dev nD) : opened cv ag κ c ⊢ levels := by
  unfold opened records
  iintro ⟨⟨-, -, H⟩, -⟩
  iexact H

/-! ## What a copy writes -/

/-- A block copied into slot `d.rev + 1` of the device `d + 1` on is what that device finds landed there. -/
theorem copied_rs (c : Dev nD) (d : Fin 31) (f : Blocks F) :
    ∀ i ∈ (rsV (1 + d.rev.val) (lt_of_shift d.rev)).view.set,
      (rsV (1 + d.rev.val) (lt_of_shift d.rev)).view.write (Elt F) f ((convV c d).view.read (Elt F) (cv c)) Finset.univ i = landed cv (nx c d) i := by
  intro i hi
  obtain ⟨x, -, rfl⟩ := Finset.mem_map.mp hi
  rw [View.write_emb_of_mem _ _ (Finset.mem_univ x)]
  show cv c ((convV c d).view.emb x) = landed cv (nx c d) ((rsV (1 + d.rev.val) (lt_of_shift d.rev)).view.emb x)
  have hz (h : S16x768.numel = S1x16x768.numel) : ((Shape.reshapeEquiv h x) 0).val = 0 := by
    have : ((Shape.reshapeEquiv h x) 0).val < 1 := ((Shape.reshapeEquiv h x) 0).isLt
    omega
  have h0 : (((rsV (1 + d.rev.val) (lt_of_shift d.rev)).view.emb x) 0).val = 1 + d.rev.val := by
    show (1 + d.rev.val) + 1 * ((Shape.reshapeEquiv _ x) 0).val = _
    rw [hz, Nat.mul_zero, Nat.add_zero]
  have hd : (⟨((nx c d).val + (((rsV (1 + d.rev.val) (lt_of_shift d.rev)).view.emb x) 0).val) % 32, Nat.mod_lt _ (by decide)⟩ : Dev nD) = c := by
    apply Fin.ext
    have hc : c.val < 32 := c.isLt
    show ((nx c d).val + _) % 32 = _
    rw [h0, nx_val, Fin.val_rev]; omega
  have hoff (a : Fin 3) : k0_off1 c (BitVec.ofNat 32 (1 + d.val)) a = (![(nx c d).val, 0, 0] : Fin 3 → ℕ) a := by rw [k0_off1_eq]; rfl
  unfold landed
  rw [hd]
  congr 1
  funext a
  fin_cases a
  · apply Fin.ext
    show k0_off1 c (BitVec.ofNat 32 (1 + d.val)) 0 + 1 * ((Shape.reshapeEquiv _ x) 0).val = (nx c d).val
    rw [hz]; exact hoff 0
  · apply Fin.ext
    show k0_off1 c (BitVec.ofNat 32 (1 + d.val)) 1 + 1 * ((Shape.reshapeEquiv _ x) 1).val = 0 + 1 * ((Shape.reshapeEquiv _ x) 1).val
    exact congrArg (· + _) (hoff 1)
  · apply Fin.ext
    show k0_off1 c (BitVec.ofNat 32 (1 + d.val)) 2 + 1 * ((Shape.reshapeEquiv _ x) 2).val = 0 + 1 * ((Shape.reshapeEquiv _ x) 2).val
    exact congrArg (· + _) (hoff 2)

theorem copied_ag (c : Dev nD) (f : Blocks F) :
    ∀ i ∈ (agV c).view.set, (agV c).view.write (Elt F) f ((agV c).view.read (Elt F) ag) Finset.univ i = ag i := by
  intro i hi
  obtain ⟨x, -, rfl⟩ := Finset.mem_map.mp hi
  rw [View.write_emb_of_mem _ _ (Finset.mem_univ x)]
  rfl

/-! ## The steps -/

variable (κ : GSem nD τ sig → ℕ) (c : Dev nD) (d : Fin 31) (l : List (Fin 31))
variable (k : PUnit → Prog (TpuEff nD τ sig (Elt F) Λ₀ .tc) PUnit)

/-- SIGNAL the device `d + 1` on, giving it its slots here. -/
def sigTake (c : Dev nD) (d : Fin 31) : sProp 𝕄 := iprop(rsSome c d ∗ agSome c (nx c d) ∗ dutyTok ER (barCell (nx c d)) 0 d.rev)

theorem step_sig (R : CellTallies nD τ sig Unit) (Q : PUnit → sProp 𝕄) :
    iprop(opened cv ag κ c ∗ sigTake c d ∗ owesE c (owe (barT c) (d :: l) R) ∗ ((iprop(emp) : sProp 𝕄) ∗ owesE c (owe (barT c) l R) -∗ wpc c (k ⟨⟩) Q))
      ⊢ wpc c (.op (eSig c d) k) Q := by
  unfold owesE sigTake
  rw [show eSig (F := F) c d = .semSignal (Dev.tc (nx c d)) barrier0 1 by rw [← sigTo_eq]]
  iintro ⟨#HR, ⟨Hrs, Hag, Ht⟩, ⟨%W, HO⟩, Hk⟩
  ihave #HI := (inv_bar cv ag κ c (nx c d)) $$ HR
  ihave #Hb := (open_bar cv ag κ c (nx c d)) $$ HR
  ihave #H1 := (open_dm cv ag κ c 1 d) $$ HR
  ihave #H3 := (open_dm cv ag κ c 3 d) $$ HR
  iapply (Rounds.wp_signal 𝒱₀ ER (Rd cv ag) (c : Thread nD τ) none (dst := (nx c d : Thread nD τ)) (sem := barrier0) (r := 0) (d := d.rev) (κ := κ (barCell (nx c d)))
      (by rw [duties_bar]; exact Finset.mem_univ _) (amount_bar cv ag (nx c d) d.rev) () (owe (barT c) l R) rfl (W := W)) $$ [HO Ht Hrs Hag]
  · isplitr; · iexact HI
    isplitl [HO]; · iexact HO
    isplitl [Ht]; · iexact Ht
    isplitl [Hrs Hag]
    · rw [payload_bar]; unfold barPay; rw [nx_nx, Fin.rev_rev]
      isplitl [Hrs]; · iexact Hrs
      isplitl [Hag]; · iexact Hag
      isplitr; · iexact H1
      iexact H3
    · iexact Hb
  iintro HO
  iapply Hk
  isplitr; · iempintro
  iexists W; iexact HO

/-- COPY the block for the device `d + 1` on into its slot there. -/
def rsTake (c : Dev nD) (d : Fin 31) : sProp 𝕄 :=
  iprop(convPts c d (cv c) ∗ rsSome (nx c d) d.rev ∗ reached ER (dmCell 1 (nx c d) d.rev) 0
    ∗ dutyTok ER (dmCell 0 c d) 0 0 ∗ dutyTok ER (dmCell 1 (nx c d) d.rev) 0 0)

theorem step_rs (R : CellTallies nD τ sig Unit) (Q : PUnit → sProp 𝕄) :
    iprop(opened cv ag κ c ∗ rsTake cv c d ∗ owesE c (owe (rsT c) (d :: l) R)
        ∗ ((cred (tallyAt (dmCell 0 c d) () N) : sProp 𝕄) ∗ owesE c (owe (rsT c) l R) -∗ wpc c (k ⟨⟩) Q))
      ⊢ wpc c (.op (eRs c d) k) Q := by
  unfold owesE rsTake rsSome
  iintro ⟨#HR, ⟨Hc, ⟨%f, Hs⟩, #Hr, Ht0, Ht1⟩, ⟨%W, HO⟩, Hk⟩
  ihave #HI0 := (inv_dm cv ag κ c 0 c d) $$ HR
  ihave #HI1 := (inv_dm cv ag κ c 1 (nx c d) d.rev) $$ HR
  ihave #Hr0 := (open_dm cv ag κ c 0 d) $$ HR
  have hdev := rsTo_eq c d
  have hs0 := sem5_eq d
  have hs1 := sem6_eq d.rev
  generalize hS0 : (SemLoc.dma (semAt cc0_scratch5 (1 + d.val) (lt_of_shift d)) : SemLoc sig) = s0 at hs0
  generalize hS1 : (SemLoc.dma (semAt cc0_scratch6 (1 + d.rev.val) (lt_of_shift d.rev)) : SemLoc sig) = s1 at hs1
  subst hs0 hs1
  iapply (Rounds.wp_send_pointsTo 𝒱₀ ER (Rd cv ag) (c : Thread nD τ) none (c' := (rsTo c d : Thread nD τ)) (src := convV c d) (dst := rsV (1 + d.rev.val) (lt_of_shift d.rev))
      (sS := .dma (semAt cc0_scratch5 (1 + d.val) (lt_of_shift d))) (sem := .dma (semAt cc0_scratch6 (1 + d.rev.val) (lt_of_shift d.rev)))
      (q := fullShare) (fs := cv c) (κ₁ := κ (dmCell 0 c d)) (κ₂ := κ (dmCell 1 (nx c d) d.rev))
      (r₁ := 0) (r₂ := 0) (d₁ := 0) (d₂ := 0) (fd := f)
      (by rw [hS0, duties_dm]; exact Finset.mem_singleton_self _) (by rw [hS1, duties_dm]; exact Finset.mem_singleton_self _)
      () () N rfl (by rw [hS0, amount_dm]) (by rw [hS1, amount_dm]) (owe (rsT c) l R) (by rw [hS1, hdev]) (W := W)
      (by rw [hS0, payload_dm]; exact BI.Entails.refl _)
      (by rw [hS1, payload_dm, hdev]; exact Entails.of_eq (pointsTo_congr (copied_rs cv c d f)))) $$ [Hc Hs HO Ht0 Ht1]
  · rw [hS0, hS1, hdev]
    isplitr; · iexact HI0
    isplitr; · iexact HI1
    isplitl [Hc]; · iexact Hc
    isplitl [Hs]; · iexact Hs
    isplitl [HO]; · iexact HO
    isplitl [Ht0]; · iexact Ht0
    isplitr; · iexact Hr0
    isplitl [Ht1]; · iexact Ht1
    iexact Hr
  iintro ⟨Hcr, HO⟩
  iapply Hk
  isplitl [Hcr]; · rw [hS0]; iexact Hcr
  iexists W; iexact HO

/-- COPY the device's own block of the result into its slot at the device `d + 1` on. -/
def agTake (c : Dev nD) (d : Fin 31) : sProp 𝕄 :=
  iprop(agPts c c (Transfers.shareTok fullShare 31 d) ag ∗ agSome (nx c d) c ∗ reached ER (dmCell 3 (nx c d) d.rev) 0
    ∗ dutyTok ER (dmCell 2 c d) 0 0 ∗ dutyTok ER (dmCell 3 (nx c d) d.rev) 0 0)

theorem step_ag (R : CellTallies nD τ sig Unit) (Q : PUnit → sProp 𝕄) :
    iprop(opened cv ag κ c ∗ agTake ag c d ∗ owesE c (owe (agT c) (d :: l) R)
        ∗ ((cred (tallyAt (dmCell 2 c d) () N) : sProp 𝕄) ∗ owesE c (owe (agT c) l R) -∗ wpc c (k ⟨⟩) Q))
      ⊢ wpc c (.op (eAg c d) k) Q := by
  unfold owesE agTake agSome
  iintro ⟨#HR, ⟨Hc, ⟨%f, Hs⟩, #Hr, Ht0, Ht1⟩, ⟨%W, HO⟩, Hk⟩
  ihave #HI0 := (inv_dm cv ag κ c 2 c d) $$ HR
  ihave #HI1 := (inv_dm cv ag κ c 3 (nx c d) d.rev) $$ HR
  ihave #Hr0 := (open_dm cv ag κ c 2 d) $$ HR
  have hdev := agTo_eq c d
  have hS0 := sem7_eq d
  have hS1 := sem8_eq d.rev
  iapply (Rounds.wp_send_pointsTo 𝒱₀ ER (Rd cv ag) (c : Thread nD τ) none (c' := (agTo c d : Thread nD τ)) (src := agV c) (dst := agV c)
      (sS := .dma (semAt cc0_scratch7 (1 + d.val) (lt_of_shift d))) (sem := .dma (semAt cc0_scratch8 (1 + d.rev.val) (lt_of_shift d.rev)))
      (q := Transfers.shareTok fullShare 31 d) (fs := ag) (κ₁ := κ (dmCell 2 c d)) (κ₂ := κ (dmCell 3 (nx c d) d.rev))
      (r₁ := 0) (r₂ := 0) (d₁ := 0) (d₂ := 0) (fd := f)
      (by rw [hS0, duties_dm]; exact Finset.mem_singleton_self _) (by rw [hS1, duties_dm]; exact Finset.mem_singleton_self _)
      () () N rfl (by rw [hS0, amount_dm]) (by rw [hS1, amount_dm]) (owe (agT c) l R) (by rw [hS1, hdev]) (W := W)
      (by rw [hS0, payload_dm]; exact BI.Entails.refl _)
      (by rw [hS1, payload_dm, hdev]; unfold dmPay; rw [nx_nx]; exact Entails.of_eq (pointsTo_congr (copied_ag ag c f)))) $$ [Hc Hs HO Ht0 Ht1]
  · rw [hS0, hS1, hdev]
    isplitr; · iexact HI0
    isplitr; · iexact HI1
    isplitl [Hc]; · iexact Hc
    isplitl [Hs]; · iexact Hs
    isplitl [HO]; · iexact HO
    isplitl [Ht0]; · iexact Ht0
    isplitr; · iexact Hr0
    isplitl [Ht1]; · iexact Ht1
    iexact Hr
  iintro ⟨Hcr, HO⟩
  iapply Hk
  isplitl [Hcr]; · rw [hS0]; iexact Hcr
  iexists W; iexact HO

/-- WAIT on a cell of copies for its one block: what it was paid with comes out, and the cell is at its end. -/
def waitTake (a : Fin 4) (c : Dev nD) (d : Fin 31) : sProp 𝕄 :=
  iprop(cred (tallyAt (dmCell a c d) () N) ∗ atPos ER (dmCell a c d) 0 ∅ 0)
def waitGive (a : Fin 4) (c : Dev nD) (d : Fin 31) : sProp 𝕄 :=
  iprop(dmPay cv ag c a d ∗ atPos ER (dmCell a c d) (0 + 1) ∅ 0)

set_option maxRecDepth 4000 in
theorem step_wait (a : Fin 4) (sem : DmaSem sig) (hsem : (SemLoc.dma sem : SemLoc sig) = osem (a, d.succ)) {src dst : Memref sig .tc .vmem S16x768 .bf16}
    (hsrc : src.view.WordExact) (hdst : dst.view.WordExact) (hN : dst.view.dmaCredit = N) (O : CellTallies nD τ sig Unit)
    (hmw : levels (F := F) ⊢ MayWait (c : Thread nD τ) (osem (a, d.succ)) () O) (Q : PUnit → sProp 𝕄) :
    iprop(opened cv ag κ c ∗ waitTake a c d ∗ owesE c O ∗ (waitGive cv ag a c d ∗ owesE c O -∗ wpc c (k ⟨⟩) Q))
      ⊢ wpc c (.op (.waitDma2 sem src dst hsrc hdst) k) Q := by
  unfold owesE waitTake waitGive
  iintro ⟨#HR, ⟨Hcr, Hat⟩, ⟨%W, HO⟩, Hk⟩
  ihave #HI := (inv_dm cv ag κ c a c d) $$ HR
  ihave #Hlev := (open_lev cv ag κ c) $$ HR
  iapply (Rounds.wp_wait_rest_token 𝒱₀ ER (Rd cv ag) (c : Thread nD τ) none (κ := κ (dmCell a c d))
      (wpE_waitDma2_eq (src := src) (dst := dst) 𝒱₀ (c : Thread nD τ) none Set.univ) (Set.mem_univ _) () (O := O) (W := W) (R := 0) (m := 0) (T := ∅)
      ((Nat.zero_add _).trans (by rw [hN, hsem, expect_dm]))) $$ [Hcr HO Hat]
  · rw [hN, hsem]
    isplitr; · iexact HI
    isplitl [Hcr]; · iexact Hcr
    isplitl [HO]; · iexact HO
    isplitr; · iapply hmw; iexact Hlev
    iexact Hat
  rw [hsem]
  iintro ⟨HO, Hat, -, Hpay⟩
  ihave Hp := (Entails.of_eq (rest_dm cv ag a c d)) $$ Hpay
  iapply Hk
  isplitl [Hp Hat]
  · isplitl [Hp]; · iexact Hp
    iexact Hat
  iexists _; iexact HO

set_option maxRecDepth 4000 in
/-- WAIT on the barrier cell for the units of all the others. -/
theorem step_bar (Q : PUnit → sProp 𝕄) :
    iprop(opened cv ag κ c ∗ (cred (tallyAt (barCell c) () 31) ∗ atPos ER (barCell c) 0 ∅ 0) ∗ owesE c (O₁ c)
        ∗ (((bigSep Finset.univ fun d => barPay c d) ∗ atPos ER (barCell c) (0 + 1) ∅ 0) ∗ owesE c (O₁ c) -∗ wpc c (k ⟨⟩) Q))
      ⊢ wpc c (.op (.semWait barrier0 31) k) Q := by
  unfold owesE
  iintro ⟨#HR, ⟨Hcr, Hat⟩, ⟨%W, HO⟩, Hk⟩
  ihave #HI := (inv_bar cv ag κ c c) $$ HR
  ihave #Hlev := (open_lev cv ag κ c) $$ HR
  iapply (Rounds.wp_wait_rest_token 𝒱₀ ER (Rd cv ag) (c : Thread nD τ) none (κ := κ (barCell c))
      (wpE_semWait_eq 𝒱₀ (c : Thread nD τ) none Set.univ) (Set.mem_univ _) () (O := O₁ c) (W := W) (R := 0) (m := 0) (T := ∅)
      ((Nat.zero_add 31).trans (expect_bar cv ag c).symm)) $$ [Hcr HO Hat]
  · isplitr; · iexact HI
    isplitl [Hcr]; · iexact Hcr
    isplitl [HO]; · iexact HO
    isplitr
    · iapply (mayWait c (.reg barrier0) (O₁ c) 1 (le_of_eq rfl) fun g u h => O₁_pos h); iexact Hlev
    iexact Hat
  iintro ⟨HO, Hat, -, Hpay⟩
  ihave Hp := (Entails.of_eq (rest_bar cv ag c)) $$ Hpay
  iapply Hk
  isplitl [Hp Hat]
  · isplitl [Hp]; · iexact Hp
    iexact Hat
  iexists _; iexact HO

end Cert.Proof

end
-- ==== Proof.Compute.lean ====
/-
  What a device computes before the exchanges — attention by blocks and its part of the projection — and that it computes it.
-/
module

public import proofs.«01_k».proof.Proof.Steps

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The values -/

/-- What a device is given: the tokens, its share of the two weights, its heads' keys and values. -/
structure Ins (F : FTy → Type) where
  x : Vec F S512x768 .bf16
  wq : Vec F S768x512 .bf16
  wo : Vec F S512x768 .bf16
  k : Vec F S2x8x512x64 .bf16
  v : Vec F S2x8x512x64 .bf16

/-- The keys, or the values, of one batch and one head. -/
def headAt (i : Fin 16) (K : Vec F S2x8x512x64 .bf16) : Vec F S1x1x512x64 .bf16 := fun z =>
  K ((Rect.unit (s := S2x8x512x64) ![i.val / 8, i.val % 8, 0, 0] S1x1x512x64.size (head_inb i)).emb z)

/-- The number of the block an element of the 512 × 512 buffer is in: its batch and its head. -/
def blkOf (y : S512x512.Idx) : Fin 16 :=
  ⟨(y 0).val / 256 * 8 + (y 1).val / 64, by
    have h0 : (y 0).val < 512 := (y 0).isLt
    have h1 : (y 1).val < 512 := (y 1).isLt
    omega⟩
/-- Its place in the block. -/
def inBlk (y : S512x512.Idx) : S256x64.Idx := fun a => match a with
  | 0 => ⟨(y 0).val % 256, Nat.mod_lt _ (by decide)⟩
  | 1 => ⟨(y 1).val % 64, Nat.mod_lt _ (by decide)⟩

/-- The whole of attention, its blocks side by side. -/
def oFull (I : Ins F) : Vec F S512x512 .bf16 := fun y =>
  attn (k0_pay1 I.x I.wq) (blkOf y) (headAt (blkOf y) I.k) (headAt (blkOf y) I.v) (inBlk y)

/-- The device's part of the projection, and what it sends of it. -/
def part (I : Ins F) : Vec F S32x16x768 .f32 := k0_pay34 (k0_pay33 I.wo) (oFull I)
def conv (I : Ins F) : Blocks F := k0_pay35 (part I)

/-! ## The blocks of attention -/

abbrev blkRect (i : Fin 16) : Rect S512x512 := Rect.unit (s := S512x512) ![i.val / 8 * 256, i.val % 8 * 64] S256x64.size (blk_inb i)

theorem blkOf_emb (i : Fin 16) (z : S256x64.Idx) : blkOf ((blkRect i).emb z) = i ∧ inBlk ((blkRect i).emb z) = z := by
  have h0 : (z 0).val < 256 := (z 0).isLt
  have h1 : (z 1).val < 64 := (z 1).isLt
  have e0 : ((blkRect i).emb z 0).val = i.val / 8 * 256 + 1 * (z 0).val := rfl
  have e1 : ((blkRect i).emb z 1).val = i.val % 8 * 64 + 1 * (z 1).val := rfl
  constructor
  · apply Fin.ext; show _ / 256 * 8 + _ / 64 = _
    rw [e0, e1]; omega
  · funext a; fin_cases a
    · apply Fin.ext; show _ % 256 = _
      rw [e0]; show _ = (z 0).val; omega
    · apply Fin.ext; show _ % 64 = _
      rw [e1]; show _ = (z 1).val; omega

theorem emb_inBlk (y : S512x512.Idx) : (blkRect (blkOf y)).emb (inBlk y) = y := by
  have h0 : (y 0).val < 512 := (y 0).isLt
  have h1 : (y 1).val < 512 := (y 1).isLt
  funext a; fin_cases a
  · apply Fin.ext
    show ((y 0).val / 256 * 8 + (y 1).val / 64) / 8 * 256 + 1 * ((y 0).val % 256) = (y 0).val
    omega
  · apply Fin.ext
    show ((y 0).val / 256 * 8 + (y 1).val / 64) % 8 * 64 + 1 * ((y 1).val % 64) = (y 1).val
    omega

/-- A block written is right, and what was right stays so. -/
theorem written (I : Ins F) (i : Fin 16) (g : Vec F S512x512 .bf16) (y : S512x512.Idx) (h : blkOf y = i ∨ g y = oFull I y) :
    (oM.access (blkRect i)).write (Elt F) g (attn (k0_pay1 I.x I.wq) i (headAt i I.k) (headAt i I.v)) Finset.univ y = oFull I y := by
  by_cases hy : blkOf y = i
  · subst hy
    have := View.write_emb_of_mem (v := (oM.access (blkRect (blkOf y)) : View sig .tc _ _ _)) (Val := Elt F) g
      (attn (k0_pay1 I.x I.wq) (blkOf y) (headAt (blkOf y) I.k) (headAt (blkOf y) I.v)) (Finset.mem_univ (inBlk y))
    rw [show (oM.access (blkRect (blkOf y)) : View sig .tc _ _ _).emb (inBlk y) = y from emb_inBlk y] at this
    exact this
  · rw [View.write_of_not_mem]
    · exact h.resolve_left hy
    · intro hm
      obtain ⟨z, -, rfl⟩ := Finset.mem_map.mp hm
      exact hy (blkOf_emb i z).1

/-! ## Running them -/

variable (c : Dev nD)

/-- A whole buffer of device `c`. -/
abbrev pt (c : Dev nD) (b : Ref sig .tc) (f : Buf (Elt F) ((c : Thread nD τ).loc b)) : sProp 𝕄 := ((c : Thread nD τ).loc b) ↦{fullShare} f

theorem wp_runA (I : Ins F) (r : Prog (TpuEff nD τ sig (Elt F) Λ₀ .tc) PUnit) (Q : PUnit → sProp 𝕄) : ∀ (l : List (Fin 16)) (g : Vec F S512x512 .bf16),
    iprop((pt c cc0_stg3_0 I.k ∗ pt c cc0_stg4_0 I.v ∗ pt c cc0_scratch0 g)
      ∗ (∀ g', ⌜∀ y, blkOf y ∈ l ∨ g y = oFull I y → g' y = oFull I y⌝ -∗ (pt c cc0_stg3_0 I.k ∗ pt c cc0_stg4_0 I.v ∗ pt c cc0_scratch0 g') -∗ wpc c r Q))
    ⊢ wpc c (runA (k0_pay1 I.x I.wq) l r) Q
  | [], g => by
    iintro ⟨H, Hk⟩
    simp only [runA]
    ispecialize Hk $$ %g %(fun y h => h.resolve_left (List.not_mem_nil)) H
    iexact Hk
  | i :: l, g => by
    simp only [runA]
    iintro ⟨⟨Hk3, Hv4, Ho⟩, Hk⟩
    iapply (wp_load 𝒱₀ (c : Thread nD τ) none Set.univ (m := Memref.whole cc0_stg3_0) (Finset.subset_univ _)) $$ Hk3; iintro Hk3
    iapply (wp_load 𝒱₀ (c : Thread nD τ) none Set.univ (m := Memref.whole cc0_stg4_0) (Finset.subset_univ _)) $$ Hv4; iintro Hv4
    iapply (wp_load 𝒱₀ (c : Thread nD τ) none Set.univ (m := oM) (Finset.subset_univ _)) $$ Ho; iintro Ho
    iapply (wp_store 𝒱₀ (c : Thread nD τ) none Set.univ (m := oM) (r := blkRect i) (Mk := Finset.univ) (Finset.subset_univ _)) $$ Ho; iintro Ho
    iapply (wp_runA I r Q l ((oM.access (blkRect i)).write (Elt F) g (attn (k0_pay1 I.x I.wq) i (headAt i I.k) (headAt i I.v)) Finset.univ))
    isplitl [Hk3 Hv4 Ho]
    · isplitl [Hk3]; · iexact Hk3
      isplitl [Hv4]; · iexact Hv4
      iexact Ho
    iintro %g' %hg' H
    ispecialize Hk $$ %g' %(fun y h => hg' y (by
      rcases h with h | h
      · rcases List.mem_cons.mp h with h | h
        · exact .inr (written I i g y (.inl h))
        · exact .inl h
      · exact .inr (written I i g y (.inr h)))) H
    iexact Hk

theorem mem_heads (i : Fin 16) : i ∈ heads := by revert i; decide

/-- All blocks done, the buffer holds attention whole. -/
theorem wp_attn (I : Ins F) (r : Prog (TpuEff nD τ sig (Elt F) Λ₀ .tc) PUnit) (Q : PUnit → sProp 𝕄) (g : Vec F S512x512 .bf16) :
    iprop(pt c cc0_stg3_0 I.k ∗ pt c cc0_stg4_0 I.v ∗ pt c cc0_scratch0 g)
    ⊢ iprop(((pt c cc0_stg3_0 I.k ∗ pt c cc0_stg4_0 I.v ∗ pt c cc0_scratch0 (oFull I)) -∗ wpc c r Q) -∗ wpc c (runA (k0_pay1 I.x I.wq) heads r) Q) := by
  iintro H Hk
  iapply (wp_runA c I r Q heads g)
  isplitl [H]; · iexact H
  iintro %g' %hg' H
  have : g' = oFull I := funext fun y => hg' y (.inl (mem_heads _))
  subst this
  iapply Hk; iexact H

end Cert.Proof

end
-- ==== Proof.Slots.lean ====
/-
  The three buffers of 32 blocks held block by block; the sum of the blocks that landed; the result of both exchanges.
-/
module

public import proofs.«01_k».proof.Proof.Compute

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Block by block -/

/-- The blocks counted from device `c`'s own on. -/
def turn (c : ℕ) (j : Fin 32) : Finset S32x16x768.Idx := blockOf ((c + j.val) % 32)

theorem turn_disjoint (c : ℕ) (j j' : Fin 32) (h : j ≠ j') : Disjoint (turn c j) (turn c j') := by
  rw [Finset.disjoint_left]
  intro i hi hi'
  rw [turn, mem_blockOf] at hi hi'
  exact h (Fin.ext (by have := j.isLt; have := j'.isLt; omega))
theorem turn_cover (c : ℕ) (i : S32x16x768.Idx) : ∃ j, i ∈ turn c j := by
  have hi : (i 0).val < 32 := (i 0).isLt
  refine ⟨⟨((i 0).val + (32 - c % 32)) % 32, Nat.mod_lt _ (by decide)⟩, ?_⟩
  rw [turn, mem_blockOf]
  show _ = (c + ((i 0).val + (32 - c % 32)) % 32) % 32
  omega

/-- A buffer cut in 32 parts is its first part and the 31 others. -/
theorem held_parts {ℓ : Loc nD τ sig} (K : Fin 32 → Finset (Idx ℓ)) (hd : ∀ j j', j ≠ j' → Disjoint (K j) (K j')) (hc : ∀ i, ∃ j, i ∈ K j)
    (f : Buf (Elt F) ℓ) : (ℓ ↦{fullShare} f : sProp 𝕄) = iprop((ℓ ↦[K 0]{fullShare} f) ∗ bigSep Finset.univ fun d : Fin 31 => ℓ ↦[K d.succ]{fullShare} f) := by
  rw [Ring.pointsTo_blocks K hd (Finset.eq_univ_iff_forall.mpr fun i => by
    obtain ⟨j, hj⟩ := hc i; exact Finset.mem_biUnion.mpr ⟨j, Finset.mem_univ _, hj⟩) f, bigSep_univ_succ]

theorem turn_rs (d : Fin 31) : turn 0 d.succ = (rsV (1 + d.val) (lt_of_shift d)).view.set := by
  rw [rsV_set, turn, Fin.val_succ]; congr 1; have := d.isLt; omega
theorem turn_nx (c : Dev nD) (d : Fin 31) : turn c.val d.succ = blockOf (nx c d).val := by
  rw [turn, Fin.val_succ, nx_val, Nat.add_assoc]
theorem turn_own (c : Dev nD) : turn c.val 0 = blockOf c.val := by
  rw [turn]; congr 1; have : c.val < 32 := c.isLt; show (c.val + 0) % 32 = _; omega

/-- Block `j` of a buffer of device `c`. -/
abbrev ownRs (c : Dev nD) (f : Blocks F) : sProp 𝕄 := (c : Thread nD τ).loc cc0_scratch3 ↦[blockOf 0]{fullShare} f
abbrev ownConv (c : Dev nD) (f : Blocks F) : sProp 𝕄 := (c : Thread nD τ).loc cc0_scratch2 ↦[blockOf c.val]{fullShare} f

theorem rs_parts (c : Dev nD) (f : Blocks F) : pt c cc0_scratch3 f = iprop(ownRs c f ∗ bigSep Finset.univ fun d => rsPts c d f) := by
  rw [pt, held_parts (ℓ := (c : Thread nD τ).loc cc0_scratch3) (turn 0) (turn_disjoint 0) (turn_cover 0) f]
  simp only [turn_rs]
  rfl
theorem conv_parts (c : Dev nD) (f : Blocks F) : pt c cc0_scratch2 f = iprop(ownConv c f ∗ bigSep Finset.univ fun d => convPts c d f) := by
  rw [pt, held_parts (ℓ := (c : Thread nD τ).loc cc0_scratch2) (turn c.val) (turn_disjoint c.val) (turn_cover c.val) f]
  simp only [turn_nx, turn_own, ← convV_set]
theorem ag_parts (c : Dev nD) (f : Blocks F) :
    pt c cc0_scratch4 f = iprop(agPts c c fullShare f ∗ bigSep Finset.univ fun d => agPts c (nx c d) fullShare f) := by
  rw [pt, held_parts (ℓ := (c : Thread nD τ).loc cc0_scratch4) (turn c.val) (turn_disjoint c.val) (turn_cover c.val) f]
  simp only [turn_nx, turn_own, ← agV_set]

/-! ## The sum -/

/-- Slot `d + 1` as a device reads it. -/
def slotAt (f : Blocks F) (d : Fin 31) : Vec F S1x16x768 .bf16 := fun z =>
  f ((Rect.unit (s := S32x16x768) ![1 + d.val, 0, 0] S1x16x768.size (slot_inb (1 + d.val) (lt_of_shift d))).emb z)
/-- The device's own block of what it computed. -/
def ownAt (c : Dev nD) (p : Vec F S32x16x768 .f32) : Vec F S1x16x768 .f32 := fun z =>
  p ((Rect.unit (s := S32x16x768) (k0_off2 c) S1x16x768.size (k0_off2_inb c)).emb z)

/-- The blocks of a list of slots added, one after the other, to `acc`. -/
def sumL (f : Blocks F) : List (Fin 31) → FVec F S16x768 .f32 → FVec F S16x768 .f32
  | [], acc => acc
  | d :: l, acc => sumL f l (addf acc (extf .f32 (shapeCast S16x768 (slotAt f d) shapeCasts_S1x16x768_S16x768) bitsLt_bf16_f32))

/-- Only what is in the slots counts. -/
theorem sumL_congr (f g : Blocks F) (h : ∀ i, (i 0).val ≠ 0 → f i = g i) : ∀ l acc, sumL f l acc = sumL g l acc
  | [], acc => rfl
  | d :: l, acc => by
    rw [sumL, sumL, sumL_congr f g h l]
    congr 3
    have : slotAt f d = slotAt g d := funext fun z => h _ (by show (1 + d.val) + 1 * (z 0).val ≠ 0; omega)
    rw [this]

variable (c : Dev nD)

theorem wp_runS (f : Blocks F) (k : FVec F S16x768 .f32 → Prog (TpuEff nD τ sig (Elt F) Λ₀ .tc) PUnit) (Q : PUnit → sProp 𝕄) :
    ∀ (l : List (Fin 31)) (acc : FVec F S16x768 .f32),
      iprop(pt c cc0_scratch3 f ∗ (pt c cc0_scratch3 f -∗ wpc c (k (sumL f l acc)) Q)) ⊢ wpc c (runS k l acc) Q
  | [], acc => by
    iintro ⟨H, Hk⟩
    simp only [runS, sumL]
    iapply Hk; iexact H
  | d :: l, acc => by
    simp only [runS, sumL]
    iintro ⟨H, Hk⟩
    iapply (wp_load 𝒱₀ (c : Thread nD τ) none Set.univ (m := rsM) (Finset.subset_univ _)) $$ H; iintro H
    iapply (wp_runS f k Q l)
    isplitl [H]; · iexact H
    iexact Hk

/-! ## The values of the exchanges -/

/-- Every device's blocks to send, when device `c` was given `inp c`; -/
def cvOf (inp : Dev nD → Ins F) (c : Dev nD) : Blocks F := conv (inp c)
/-- the sum at device `c`; -/
def accOf (inp : Dev nD → Ins F) (c : Dev nD) : FVec F S16x768 .f32 :=
  sumL (landed (cvOf inp) c) others (shapeCast S16x768 (ownAt c (part (inp c))) shapeCasts_S1x16x768_S16x768)
/-- the block device `c` gives to all; -/
def sendOf (inp : Dev nD → Ins F) (c : Dev nD) : FVec F S1x16x768 .bf16 :=
  shapeCast S1x16x768 (truncf .bf16 (accOf inp c) bitsLt_bf16_f32) shapeCasts_S16x768_S1x16x768
/-- and all the blocks, as every device has them at the end. -/
def gather (w : Dev nD → Vec F S1x16x768 .bf16) : Blocks F := fun i => w (i 0) (fun a => match a with
  | 0 => (⟨0, Nat.one_pos⟩ : Fin 1) | 1 => i 1 | 2 => i 2)
def agOf (inp : Dev nD → Ins F) : Blocks F := gather (sendOf inp)

abbrev ownRect : Rect S32x16x768 := Rect.unit (s := S32x16x768) (k0_off2 c) S1x16x768.size (k0_off2_inb c)

theorem ownRect_set : (agM.access (ownRect c)).set = blockOf c.val := by
  show ((((View.whole cc0_scratch4).slice _)).set : Finset _) = _
  rw [View.set_slice_whole]; exact rect_block _ _ _ (k0_off2_eq c)

theorem gather_own (w : Dev nD → Vec F S1x16x768 .bf16) (x : S1x16x768.Idx) : gather w ((ownRect c).emb x) = w c x := by
  have h0 : (x 0).val < 1 := (x 0).isLt
  have hoff (a : Fin 3) : k0_off2 c a = (![c.val, 0, 0] : Fin 3 → ℕ) a := by rw [k0_off2_eq]
  have hd : (((ownRect c).emb x 0 : Fin 32) : Dev nD) = c := by
    apply Fin.ext
    show k0_off2 c 0 + 1 * (x 0).val = c.val
    rw [hoff 0]; show c.val + _ = _; omega
  unfold gather
  rw [hd]
  congr 1
  funext a; fin_cases a
  · apply Fin.ext; show 0 = (x 0).val; omega
  · apply Fin.ext
    show k0_off2 c 1 + 1 * (x 1).val = (x 1).val
    rw [hoff 1]; show 0 + _ = _; omega
  · apply Fin.ext
    show k0_off2 c 2 + 1 * (x 2).val = (x 2).val
    rw [hoff 2]; show 0 + _ = _; omega

theorem stored_ag (w : Dev nD → Vec F S1x16x768 .bf16) (f : Blocks F) :
    ∀ i ∈ (agV c).view.set, (agM.access (ownRect c)).write (Elt F) f (w c) Finset.univ i = gather w i := by
  intro i hi
  rw [agV_set, ← ownRect_set] at hi
  obtain ⟨x, -, rfl⟩ := Finset.mem_map.mp hi
  rw [View.write_emb_of_mem _ _ (Finset.mem_univ x)]
  exact (gather_own c w x).symm

end Cert.Proof

end
-- ==== Proof.Body.lean ====
/-
  The body of one device, from what the launch gives it to the result.
-/
module

public import proofs.«01_k».proof.Proof.Slots

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem off2_zero : (![0, 0] : Fin 2 → ℕ) = fun _ => 0 := by funext a; fin_cases a <;> rfl
theorem off3_zero : (![0, 0, 0] : Fin 3 → ℕ) = fun _ => 0 := by funext a; fin_cases a <;> rfl

/-- A buffer read whole gives its contents; written whole, it holds what was written. -/
theorem rd_x (f : Vec F S512x768 .bf16) : (Memref.whole cc0_stg0_0).view.readAt (Elt F) (Rect.unit (s := S512x768) ![0, 0] S512x768.size inb_S512x768_S512x768_0_0).toLoadRect f = f :=
  Memref.readAt_unit_zero (Elt F) cc0_stg0_0 off2_zero _ f
theorem rd_wq (f : Vec F S768x512 .bf16) : (Memref.whole cc0_stg1_0).view.readAt (Elt F) (Rect.unit (s := S768x512) ![0, 0] S768x512.size inb_S768x512_S768x512_0_0).toLoadRect f = f :=
  Memref.readAt_unit_zero (Elt F) cc0_stg1_0 off2_zero _ f
theorem rd_wo (f : Vec F S512x768 .bf16) : (Memref.whole cc0_stg2_0).view.readAt (Elt F) (Rect.unit (s := S512x768) ![0, 0] S512x768.size inb_S512x768_S512x768_0_0).toLoadRect f = f :=
  Memref.readAt_unit_zero (Elt F) cc0_stg2_0 off2_zero _ f
theorem rd_o (f : Vec F S512x512 .bf16) : oM.view.readAt (Elt F) (Rect.unit (s := S512x512) ![0, 0] S512x512.size inb_S512x512_S512x512_0_0).toLoadRect f = f :=
  Memref.readAt_unit_zero (Elt F) cc0_scratch0 off2_zero _ f
abbrev allRect : Rect S32x16x768 := Rect.unit (s := S32x16x768) ![0, 0, 0] S32x16x768.size inb_S32x16x768_S32x16x768_0_0_0
theorem rd_part (f : Vec F S32x16x768 .f32) : partM.view.readAt (Elt F) allRect.toLoadRect f = f := Memref.readAt_unit_zero (Elt F) cc0_scratch1 off3_zero _ f
theorem rd_ag (f : Blocks F) : agM.view.readAt (Elt F) allRect.toLoadRect f = f := Memref.readAt_unit_zero (Elt F) cc0_scratch4 off3_zero _ f
theorem wr_part (f w : Vec F S32x16x768 .f32) : (partM.access allRect).write (Elt F) f w Finset.univ = w := Memref.write_access_unit_zero_univ (Elt F) cc0_scratch1 off3_zero _ f w
theorem wr_conv (f w : Blocks F) : (convM.access allRect).write (Elt F) f w Finset.univ = w := Memref.write_access_unit_zero_univ (Elt F) cc0_scratch2 off3_zero _ f w
theorem wr_out (f w : Vec F S32x16x768 .f32) : (outM.access allRect).write (Elt F) f w Finset.univ = w := Memref.write_access_unit_zero_univ (Elt F) cc0_stg5_0 off3_zero _ f w

/-- What is said of all 31 others may be said counting from the far end. -/
theorem bigSep_rev (Φ : Fin 31 → sProp 𝕄) : bigSep Finset.univ Φ = bigSep Finset.univ fun d : Fin 31 => Φ d.rev :=
  bigSep_univ_equiv Fin.revPerm Φ

variable (c : Dev nD)

/-! ## What a device computes by itself -/

/-- The inputs of a device, staged. -/
def staged (c : Dev nD) (I : Ins F) : sProp 𝕄 :=
  iprop(pt c cc0_stg0_0 I.x ∗ pt c cc0_stg1_0 I.wq ∗ pt c cc0_stg2_0 I.wo ∗ pt c cc0_stg3_0 I.k ∗ pt c cc0_stg4_0 I.v)

/-- What follows the first part. -/
def restB (c : Dev nD) (r : Prog (TpuEff nD τ sig (Elt F) Λ₀ .tc) PUnit) : Prog (TpuEff nD τ sig (Elt F) Λ₀ .tc) PUnit :=
  .op (.load (Memref.whole cc0_stg0_0) (Rect.unit (s := S512x768) ![0, 0] S512x768.size inb_S512x768_S512x768_0_0).toLoadRect (View.loadsAt_vmem h_S512x768)) fun (x : Vec F S512x768 .bf16) =>
  .op (.load (Memref.whole cc0_stg1_0) (Rect.unit (s := S768x512) ![0, 0] S768x512.size inb_S768x512_S768x512_0_0).toLoadRect (View.loadsAt_vmem h_S768x512)) fun (wq : Vec F S768x512 .bf16) =>
  runA (k0_pay1 x wq) heads <|
  .op (.load (Memref.whole cc0_stg2_0) (Rect.unit (s := S512x768) ![0, 0] S512x768.size inb_S512x768_S512x768_0_0).toLoadRect (View.loadsAt_vmem h_S512x768)) fun (wo : Vec F S512x768 .bf16) =>
  .op (.load oM (Rect.unit (s := S512x512) ![0, 0] S512x512.size inb_S512x512_S512x512_0_0).toLoadRect (View.loadsAt_vmem h_S512x512)) fun (o : Vec F S512x512 .bf16) =>
  .op (.load partM (Rect.unit (s := S32x16x768) ![0, 0, 0] S32x16x768.size inb_S32x16x768_S32x16x768_0_0_0).toLoadRect (View.loadsAt_vmem h_S32x16x768)) fun _ =>
  .op (.store partM (Rect.unit (s := S32x16x768) ![0, 0, 0] S32x16x768.size inb_S32x16x768_S32x16x768_0_0_0) (k0_pay34 (k0_pay33 wo) o) Finset.univ (View.stores_vmem_bits_univ h_S32x16x768 rfl) (.inl rfl)) fun _ =>
  .op (.load partM (Rect.unit (s := S32x16x768) ![0, 0, 0] S32x16x768.size inb_S32x16x768_S32x16x768_0_0_0).toLoadRect (View.loadsAt_vmem h_S32x16x768)) fun (p : Vec F S32x16x768 .f32) =>
  .op (.load convM (Rect.unit (s := S32x16x768) ![0, 0, 0] S32x16x768.size inb_S32x16x768_S32x16x768_0_0_0).toLoadRect (View.loadsAt_vmem h_S32x16x768)) fun _ =>
  .op (.store convM (Rect.unit (s := S32x16x768) ![0, 0, 0] S32x16x768.size inb_S32x16x768_S32x16x768_0_0_0) (k0_pay35 p) Finset.univ
    (View.stores_vmem h_S32x16x768 ((Memref.isWhole_whole cc0_scratch2).storeExact_slice rfl _ packedbf16_S32x16x768_S32x16x768_0_0_0) (fun _ => rfl)) (.inl rfl)) fun _ => r

set_option maxRecDepth 4000 in
theorem wp_compute (I : Ins F) (g0 : Vec F S512x512 .bf16) (g1 : Vec F S32x16x768 .f32) (g2 : Blocks F)
    (r : Prog (TpuEff nD τ sig (Elt F) Λ₀ .tc) PUnit) (Q : PUnit → sProp 𝕄) :
    iprop(staged c I ∗ pt c cc0_scratch0 g0 ∗ pt c cc0_scratch1 g1 ∗ pt c cc0_scratch2 g2)
    ⊢ iprop(((staged c I ∗ pt c cc0_scratch0 (oFull I) ∗ pt c cc0_scratch1 (part I) ∗ pt c cc0_scratch2 (conv I)) -∗ wpc c r Q)
      -∗ wpc c (restB c r) Q) := by
  unfold staged restB
  iintro ⟨⟨Hx, Hq, Hw, Hk3, Hv4⟩, H0, H1, H2⟩ Hk
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg1_0) (Finset.subset_univ _)) $$ Hq; iintro Hq
  rw [rd_x, rd_wq]
  iapply (wp_attn c I _ Q g0) $$ [Hk3 Hv4 H0]
  · isplitl [Hk3]; · iexact Hk3
    isplitl [Hv4]; · iexact Hv4
    iexact H0
  iintro ⟨Hk3, Hv4, H0⟩
  iapply (wp_load 𝒱₀ (c : Thread nD τ) none Set.univ (m := Memref.whole cc0_stg2_0) (Finset.subset_univ _)) $$ Hw; iintro Hw
  iapply (wp_load 𝒱₀ (c : Thread nD τ) none Set.univ (m := oM) (Finset.subset_univ _)) $$ H0; iintro H0
  rw [rd_wo, rd_o]
  iapply (wp_load 𝒱₀ (c : Thread nD τ) none Set.univ (m := partM) (Finset.subset_univ _)) $$ H1; iintro H1
  iapply (wp_store 𝒱₀ (c : Thread nD τ) none Set.univ (m := partM) (r := allRect) (Mk := Finset.univ) (Finset.subset_univ _)) $$ H1; iintro H1
  rw [wr_part]
  iapply (wp_load 𝒱₀ (c : Thread nD τ) none Set.univ (m := partM) (Finset.subset_univ _)) $$ H1; iintro H1
  rw [rd_part]
  iapply (wp_load 𝒱₀ (c : Thread nD τ) none Set.univ (m := convM) (Finset.subset_univ _)) $$ H2; iintro H2
  iapply (wp_store 𝒱₀ (c : Thread nD τ) none Set.univ (m := convM) (r := allRect) (Mk := Finset.univ) (Finset.subset_univ _)) $$ H2; iintro H2
  rw [wr_conv]
  iapply Hk
  isplitl [Hx Hq Hw Hk3 Hv4]
  · isplitl [Hx]; · iexact Hx
    isplitl [Hq]; · iexact Hq
    isplitl [Hw]; · iexact Hw
    isplitl [Hk3]; · iexact Hk3
    iexact Hv4
  isplitl [H0]; · iexact H0
  isplitl [H1]; · iexact H1
  iexact H2

/-! ## The first exchange -/

variable (cv : Dev nD → Blocks F) (ag : Blocks F) (κ : GSem nD τ sig → ℕ)

/-- What the launch gives a device for the meeting at the barrier and the first exchange, -/
def ticket₁ (c : Dev nD) : sProp 𝕄 :=
  iprop((cred (tallyAt (barCell c) () 31) ∗ atPos ER (barCell c) 0 ∅ 0)
    ∗ (bigSep Finset.univ fun d : Fin 31 => dutyTok ER (barCell (nx c d)) 0 d.rev)
    ∗ (bigSep Finset.univ fun d : Fin 31 => dutyTok ER (dmCell 0 c d) 0 0)
    ∗ (bigSep Finset.univ fun d : Fin 31 => dutyTok ER (dmCell 1 (nx c d) d.rev) 0 0)
    ∗ (bigSep Finset.univ fun d : Fin 31 => atPos ER (dmCell 0 c d) 0 ∅ 0)
    ∗ (bigSep Finset.univ fun d : Fin 31 => waitTake 1 c d))
/-- and for the second. -/
def ticket₂ (c : Dev nD) : sProp 𝕄 :=
  iprop((bigSep Finset.univ fun d : Fin 31 => dutyTok ER (dmCell 2 c d) 0 0)
    ∗ (bigSep Finset.univ fun d : Fin 31 => dutyTok ER (dmCell 3 (nx c d) d.rev) 0 0)
    ∗ (bigSep Finset.univ fun d : Fin 31 => atPos ER (dmCell 2 c d) 0 ∅ 0)
    ∗ (bigSep Finset.univ fun d : Fin 31 => waitTake 3 c d))

/-- The cells of copies of array `a` at their end. -/
def done (a : Fin 4) (c : Dev nD) : sProp 𝕄 := bigSep Finset.univ fun d : Fin 31 => atPos ER (dmCell a c d) (0 + 1) ∅ 0

/-- From the others, for the second exchange: their slot for this device, its cell there open. -/
def lent₂ (c : Dev nD) : sProp 𝕄 :=
  iprop((bigSep Finset.univ fun d : Fin 31 => agSome (nx c d) c) ∗ bigSep Finset.univ fun d : Fin 31 => reached ER (dmCell 3 (nx c d) d.rev) 0)

theorem some_rs (f : Blocks F) : (bigSep Finset.univ fun d => rsPts c d f) ⊢ bigSep Finset.univ fun d => rsSome (F := F) c d := by
  have h (d : Fin 31) : (rsPts c d f : sProp 𝕄) ⊢ rsSome c d := by unfold rsSome; iintro H; iexists f; iexact H
  exact bigSep_mono fun d _ => h d
theorem some_ag (f : Blocks F) : (bigSep Finset.univ fun d => agPts c (nx c d) fullShare f) ⊢ bigSep Finset.univ fun d => agSome (F := F) c (nx c d) := by
  have h (o : Dev nD) : (agPts c o fullShare f : sProp 𝕄) ⊢ agSome c o := by unfold agSome; iintro H; iexists f; iexact H
  exact bigSep_mono fun d _ => h (nx c d)

/-- The slots hold what counts in them. -/
theorem slots_congr (f g : Blocks F) (h : ∀ i, (i 0).val ≠ 0 → f i = g i) :
    (bigSep Finset.univ fun d => rsPts c d f) ⊢ bigSep Finset.univ fun d => rsPts (F := F) c d g := by
  have h (d : Fin 31) : (rsPts c d f : sProp 𝕄) = rsPts c d g := pointsTo_congr fun i hi => by
    rw [rsV_set] at hi
    exact h i (by rw [mem_blockOf.mp hi]; omega)
  exact Entails.of_eq (bigSep_congr fun d _ => h d)

set_option maxRecDepth 4000 in
theorem wp_first (g3 g4 : Blocks F) (r : Prog (TpuEff nD τ sig (Elt F) Λ₀ .tc) PUnit) (Q : PUnit → sProp 𝕄) :
    iprop(opened cv ag κ c ∗ pt c cc0_scratch2 (cv c) ∗ pt c cc0_scratch3 g3 ∗ pt c cc0_scratch4 g4 ∗ ticket₁ c ∗ owesE c (O₀ c))
    ⊢ iprop(((pt c cc0_scratch2 (cv c) ∗ (∃ f : Blocks F, ⌜∀ i, (i 0).val ≠ 0 → f i = landed cv c i⌝ ∗ pt c cc0_scratch3 f) ∗ agPts c c fullShare g4
          ∗ lent₂ c ∗ atPos ER (barCell c) (0 + 1) ∅ 0 ∗ done 0 c ∗ done 1 c ∗ owesE c (O₂ c)) -∗ wpc c r Q)
      -∗ wpc c (runL (eSig c) others <| .op (.semWait barrier0 31) fun _ => runL (eRs c) others <| runL (eRsRecv c) others <| runL (eRsSend c) others r) Q) := by
  rw [conv_parts, rs_parts, ag_parts]
  unfold ticket₁
  iintro ⟨#HR, ⟨Hc0, Hc⟩, ⟨Hs0, Hs⟩, ⟨Ha0, Ha⟩, ⟨Hbar, Tb, T0, T1, P0, W1⟩, HO⟩ Hk
  ihave Hs := (some_rs c g3) $$ Hs
  ihave Ha := (some_ag c g4) $$ Ha
  iapply (wp_others c (opened cv ag κ c) (eSig c) (fun l => owe (barT c) l (O₁ c)) (sigTake c) (fun _ => iprop(emp))
      (fun d l k Q => step_sig cv ag κ c d l k (O₁ c) Q) _ Q) $$ [Hs Ha Tb HO]
  · isplitr; · iexact HR
    isplitl [Hs Ha Tb]
    · unfold sigTake
      rw [bigSep_sep', bigSep_sep']
      isplitl [Hs]; · iexact Hs
      isplitl [Ha]; · iexact Ha
      iexact Tb
    · iexact HO
  iintro ⟨-, HO⟩
  iapply (step_bar cv ag κ c (fun _ => _) Q)
  isplitr; · iexact HR
  isplitl [Hbar]; · iexact Hbar
  isplitl [HO]; · iexact HO
  iintro ⟨⟨Hp, Hbar⟩, HO⟩
  unfold barPay
  ihave Hp := (Entails.of_eq (bigSep_sep' _ _ _)) $$ Hp
  icases Hp with ⟨Hs, Hp⟩
  ihave Hp := (Entails.of_eq (bigSep_sep' _ _ _)) $$ Hp
  icases Hp with ⟨Ha, Hp⟩
  ihave Hp := (Entails.of_eq (bigSep_sep' _ _ _)) $$ Hp
  icases Hp with ⟨R1, R3⟩
  iapply (wp_others c (opened cv ag κ c) (eRs c) (fun l => owe (rsT c) l (O₂ c)) (rsTake cv c) (fun d => cred (tallyAt (dmCell 0 c d) () N))
      (fun d l k Q => step_rs cv ag κ c d l k (O₂ c) Q) _ Q) $$ [Hc Hs R1 T0 T1 HO]
  · isplitr; · iexact HR
    isplitl [Hc Hs R1 T0 T1]
    · unfold rsTake
      rw [bigSep_sep', bigSep_sep', bigSep_sep', bigSep_sep']
      isplitl [Hc]; · iexact Hc
      isplitl [Hs]; · iexact Hs
      isplitl [R1]; · iexact R1
      isplitl [T0]; · iexact T0
      iexact T1
    · iexact HO
  iintro ⟨C0, HO⟩
  iapply (wp_others c (opened cv ag κ c) (eRsRecv c) (fun _ => O₂ c) (fun d => waitTake 1 c d.rev) (fun d => waitGive cv ag 1 c d.rev)
      (fun d l k Q => step_wait cv ag κ c d.rev k 1 _ (sem6_eq d.rev) (conv_exact c d) (rs_exact (1 + d.rev.val) (lt_of_shift d.rev)) rfl (O₂ c)
        (mayWait c _ (O₂ c) 2 (by rw [lv_dm]; decide) fun g u h => O₂_pos h) Q) _ Q) $$ [W1 HO]
  · isplitr; · iexact HR
    isplitl [W1]
    · rw [← bigSep_rev (fun d => waitTake 1 c d)]; iexact W1
    · iexact HO
  iintro ⟨G1, HO⟩
  ihave G1 := (Entails.of_eq (bigSep_rev (fun d => waitGive cv ag 1 c d)).symm) $$ G1
  iapply (wp_others c (opened cv ag κ c) (eRsSend c) (fun _ => O₂ c) (fun d => waitTake 0 c d) (fun d => waitGive cv ag 0 c d)
      (fun d l k Q => step_wait cv ag κ c d k 0 _ (sem5_eq d) (rs_exact (1 + d.rev.val) (lt_of_shift d.rev)) (conv_exact c d) rfl (O₂ c)
        (mayWait c _ (O₂ c) 2 (by rw [lv_dm]; decide) fun g u h => O₂_pos h) Q) _ Q) $$ [C0 P0 HO]
  · isplitr; · iexact HR
    isplitl [C0 P0]
    · unfold waitTake
      rw [bigSep_sep']
      isplitl [C0]; · iexact C0
      iexact P0
    · iexact HO
  iintro ⟨G0, HO⟩
  unfold waitGive
  ihave G1 := (Entails.of_eq (bigSep_sep' _ _ _)) $$ G1
  icases G1 with ⟨Hs, D1⟩
  ihave G0 := (Entails.of_eq (bigSep_sep' _ _ _)) $$ G0
  icases G0 with ⟨Hc, D0⟩
  iapply Hk
  isplitl [Hc0 Hc]
  · isplitl [Hc0]; · iexact Hc0
    iexact Hc
  isplitl [Hs0 Hs]
  · iexists (fun i => if (i 0).val = 0 then g3 i else landed cv c i)
    isplitr
    · ipureintro; intro i h; exact if_neg h
    rw [rs_parts]
    isplitl [Hs0]
    · iapply (Entails.of_eq (pointsTo_congr (ℓ := (c : Thread nD τ).loc cc0_scratch3) (I := blockOf 0) (f := g3) fun i hi => (if_pos (mem_blockOf.mp hi)).symm)); iexact Hs0
    · iapply (slots_congr c (landed cv c) _ fun i h => (if_neg h).symm); iexact Hs
  isplitl [Ha0]; · iexact Ha0
  isplitl [Ha R3]
  · unfold lent₂
    isplitl [Ha]; · iexact Ha
    iexact R3
  isplitl [Hbar]; · iexact Hbar
  isplitl [D0]; · unfold done; iexact D0
  isplitl [D1]; · unfold done; iexact D1
  iexact HO

end Cert.Proof

end
-- ==== Proof.Second.lean ====
/-
  The sum, the second exchange, the result — and with that the whole body of a device.
-/
module

public import proofs.«01_k».proof.Proof.Body

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (inp : Dev nD → Ins F) (κ : GSem nD τ sig → ℕ) (c : Dev nD)

/-- What follows the first exchange, up to `r`. -/
def restC (c : Dev nD) (r : Prog (TpuEff nD τ sig (Elt F) Λ₀ .tc) PUnit) : Prog (TpuEff nD τ sig (Elt F) Λ₀ .tc) PUnit :=
  .op (.load partM (Rect.unit (s := S32x16x768) (k0_off2 c) S1x16x768.size (k0_off2_inb c)).toLoadRect (View.loadsAt_vmem h_S1x16x768)) fun (own : Vec F S1x16x768 .f32) =>
  runS (fun acc =>
    .op (.load agM (Rect.unit (s := S32x16x768) (k0_off2 c) S1x16x768.size (k0_off2_inb c)).toLoadRect (View.loadsAt_vmem h_S1x16x768)) fun _ =>
    .op (.store agM (Rect.unit (s := S32x16x768) (k0_off2 c) S1x16x768.size (k0_off2_inb c)) (shapeCast S1x16x768 (truncf .bf16 acc bitsLt_bf16_f32) shapeCasts_S16x768_S1x16x768) Finset.univ
      (View.stores_vmem h_S1x16x768 ((Memref.isWhole_whole cc0_scratch4).storeExact_slice rfl _ (k0_off2_packedbf16 c)) (fun _ => rfl)) (.inl rfl)) fun _ =>
    runL (eAg c) others <| runL (eAgRecv c) others <| runL (eAgSend c) others <|
    .op (.load agM (Rect.unit (s := S32x16x768) ![0, 0, 0] S32x16x768.size inb_S32x16x768_S32x16x768_0_0_0).toLoadRect (View.loadsAt_vmem h_S32x16x768)) fun (a : Vec F S32x16x768 .bf16) =>
    .op (.load outM (Rect.unit (s := S32x16x768) ![0, 0, 0] S32x16x768.size inb_S32x16x768_S32x16x768_0_0_0).toLoadRect (View.loadsAt_vmem h_S32x16x768)) fun _ =>
    .op (.store outM (Rect.unit (s := S32x16x768) ![0, 0, 0] S32x16x768.size inb_S32x16x768_S32x16x768_0_0_0) (k0_pay40 a) Finset.univ (View.stores_vmem_bits_univ h_S32x16x768 rfl) (.inl rfl)) fun _ =>
    r) others (shapeCast S16x768 own shapeCasts_S1x16x768_S16x768)

theorem bodyAtDev_eq : bodyAtDev (F := F) c = restB c (runL (eSig c) others <| .op (.semWait barrier0 31) fun _ =>
    runL (eRs c) others <| runL (eRsRecv c) others <| runL (eRsSend c) others <| restC c (.ret ⟨⟩)) := rfl

set_option maxRecDepth 4000 in
theorem wp_second (g4 : Blocks F) (g5 : Vec F S32x16x768 .f32) (r : Prog (TpuEff nD τ sig (Elt F) Λ₀ .tc) PUnit) (Q : PUnit → sProp 𝕄) :
    iprop(opened (cvOf inp) (agOf inp) κ c ∗ pt c cc0_scratch1 (part (inp c))
        ∗ (∃ f : Blocks F, ⌜∀ i, (i 0).val ≠ 0 → f i = landed (cvOf inp) c i⌝ ∗ pt c cc0_scratch3 f) ∗ agPts c c fullShare g4
        ∗ lent₂ c ∗ ticket₂ c ∗ pt c cc0_stg5_0 g5 ∗ owesE c (O₂ c))
    ⊢ iprop(((pt c cc0_scratch1 (part (inp c)) ∗ (∃ f : Blocks F, pt c cc0_scratch3 f) ∗ pt c cc0_scratch4 (agOf inp)
          ∗ pt c cc0_stg5_0 (k0_pay40 (agOf inp)) ∗ done 2 c ∗ done 3 c ∗ owesE c 0) -∗ wpc c r Q)
      -∗ wpc c (restC c r) Q) := by
  unfold ticket₂ lent₂ restC
  iintro ⟨#HR, H1, ⟨%f, %hf, H3⟩, H4, ⟨Ha, R3⟩, ⟨T2, T3, P2, W3⟩, H5, HO⟩ Hk
  iapply (wp_load 𝒱₀ (c : Thread nD τ) none Set.univ (m := partM) (Finset.subset_univ _)) $$ H1; iintro H1
  iapply (wp_runS c f _ Q others)
  isplitl [H3]; · iexact H3
  iintro H3
  rw [sumL_congr f _ hf]
  iapply (wp_load_rect 𝒱₀ (c : Thread nD τ) none Set.univ (m := agM) (r := ownRect c) (S := (agV c).view.set)
    (by rw [agV_set, ownRect_set])) $$ H4; iintro H4
  iapply (wp_store 𝒱₀ (c : Thread nD τ) none Set.univ (m := agM) (r := ownRect c) (Mk := Finset.univ) (S := (agV c).view.set)
    (by rw [View.setOn_univ, agV_set, ownRect_set])) $$ H4; iintro H4
  ihave H4 := (Entails.of_eq (pointsTo_congr (stored_ag c (sendOf inp) g4))) $$ H4
  ihave H4 := (Transfers.pointsTo_toks_split fullShare 31) $$ H4
  icases H4 with ⟨H4, Ht⟩
  iapply (wp_others c (opened (cvOf inp) (agOf inp) κ c) (eAg c) (fun l => owe (agT c) l 0) (agTake (agOf inp) c) (fun d => cred (tallyAt (dmCell 2 c d) () N))
      (fun d l k Q => step_ag (cvOf inp) (agOf inp) κ c d l k 0 Q) _ Q) $$ [Ha Ht R3 T2 T3 HO]
  · isplitr; · iexact HR
    isplitl [Ha Ht R3 T2 T3]
    · unfold agTake
      rw [bigSep_sep', bigSep_sep', bigSep_sep', bigSep_sep']
      isplitl [Ht]; · iexact Ht
      isplitl [Ha]; · iexact Ha
      isplitl [R3]; · iexact R3
      isplitl [T2]; · iexact T2
      iexact T3
    · iexact HO
  iintro ⟨C2, HO⟩
  iapply (wp_others c (opened (cvOf inp) (agOf inp) κ c) (eAgRecv c) (fun _ => 0) (fun d => waitTake 3 c d.rev) (fun d => waitGive (cvOf inp) (agOf inp) 3 c d.rev)
      (fun d l k Q => step_wait (cvOf inp) (agOf inp) κ c d.rev k 3 _ (sem8_eq d.rev) (ag_exact c) (ag_exact c) rfl 0
        (mayWait c _ 0 3 (by rw [lv_dm]; decide) fun g u h => absurd h (Nat.lt_irrefl 0)) Q) _ Q) $$ [W3 HO]
  · isplitr; · iexact HR
    isplitl [W3]
    · rw [← bigSep_rev (fun d => waitTake 3 c d)]; iexact W3
    · iexact HO
  iintro ⟨G3, HO⟩
  ihave G3 := (Entails.of_eq (bigSep_rev (fun d => waitGive (cvOf inp) (agOf inp) 3 c d)).symm) $$ G3
  iapply (wp_others c (opened (cvOf inp) (agOf inp) κ c) (eAgSend c) (fun _ => 0) (fun d => waitTake 2 c d) (fun d => waitGive (cvOf inp) (agOf inp) 2 c d)
      (fun d l k Q => step_wait (cvOf inp) (agOf inp) κ c d k 2 _ (sem7_eq d) (ag_exact c) (ag_exact c) rfl 0
        (mayWait c _ 0 3 (by rw [lv_dm]; decide) fun g u h => absurd h (Nat.lt_irrefl 0)) Q) _ Q) $$ [C2 P2 HO]
  · isplitr; · iexact HR
    isplitl [C2 P2]
    · unfold waitTake
      rw [bigSep_sep']
      isplitl [C2]; · iexact C2
      iexact P2
    · iexact HO
  iintro ⟨G2, HO⟩
  unfold waitGive
  ihave G3 := (Entails.of_eq (bigSep_sep' _ _ _)) $$ G3
  icases G3 with ⟨Ha, D3⟩
  ihave G2 := (Entails.of_eq (bigSep_sep' _ _ _)) $$ G2
  icases G2 with ⟨Ht, D2⟩
  ihave H4 := (Transfers.pointsTo_toks_join (ℓ := (agV c).view.loc (c : Thread nD τ)) (S := (agV c).view.set) (f := agOf inp) fullShare 31) $$ [H4 Ht]
  · isplitl [H4]; · iexact H4
    iexact Ht
  ihave H4 := (Entails.of_eq (ag_parts c (agOf inp)).symm) $$ [H4 Ha]
  · isplitl [H4]; · iexact H4
    iexact Ha
  iapply (wp_load 𝒱₀ (c : Thread nD τ) none Set.univ (m := agM) (Finset.subset_univ _)) $$ H4; iintro H4
  rw [rd_ag]
  iapply (wp_load 𝒱₀ (c : Thread nD τ) none Set.univ (m := outM) (Finset.subset_univ _)) $$ H5; iintro H5
  iapply (wp_store 𝒱₀ (c : Thread nD τ) none Set.univ (m := outM) (r := allRect) (Mk := Finset.univ) (Finset.subset_univ _)) $$ H5; iintro H5
  rw [wr_out]
  iapply Hk
  isplitl [H1]; · iexact H1
  isplitl [H3]; · iexists f; iexact H3
  isplitl [H4]; · iexact H4
  isplitl [H5]; · iexact H5
  isplitl [D2]; · unfold done; iexact D2
  isplitl [D3]; · unfold done; iexact D3
  iexact HO

/-! ## The end -/

variable (cv : Dev nD → Blocks F) (ag : Blocks F)

/-- The counters of a device's cells, all back at zero. -/
def zeroed (c : Dev nD) : sProp 𝕄 :=
  iprop(semVal (barCell c) 0 ∗ (bigSep Finset.univ fun d : Fin 31 => semVal (dmCell 0 c d) 0) ∗ (bigSep Finset.univ fun d : Fin 31 => semVal (dmCell 1 c d) 0)
    ∗ (bigSep Finset.univ fun d : Fin 31 => semVal (dmCell 2 c d) 0) ∗ (bigSep Finset.univ fun d : Fin 31 => semVal (dmCell 3 c d) 0))

theorem close_bar : iprop(opened cv ag κ c ∗ atPos ER (barCell c) (0 + 1) ∅ 0) ⊢ |={Set.univ}=> semVal (barCell c) 0 := by
  iintro ⟨#HR, Hat⟩
  ihave #HI := (inv_bar cv ag κ c c) $$ HR
  iapply (Rounds.cell_close ER (Rd cv ag) (κ := κ (barCell c)) (Set.mem_univ _) id (R := 0 + 1) (duties_later cv ag (barCell c)))
  isplitr; · iexact HI
  iexact Hat
theorem close_dm (a : Fin 4) : iprop(opened cv ag κ c ∗ done a c) ⊢ |={Set.univ}=> bigSep Finset.univ fun d : Fin 31 => semVal (dmCell a c d) 0 := by
  have one (d : Fin 31) : iprop(opened cv ag κ c ∗ atPos ER (dmCell a c d) (0 + 1) ∅ 0) ⊢ |={Set.univ}=> semVal (dmCell a c d) 0 := by
    iintro ⟨#HR, Hat⟩
    ihave #HI := (inv_dm cv ag κ c a c d) $$ HR
    iapply (Rounds.cell_close ER (Rd cv ag) (κ := κ (dmCell a c d)) (Set.mem_univ _) id (R := 0 + 1) (duties_later cv ag (dmCell a c d)))
    isplitr; · iexact HI
    iexact Hat
  unfold done
  exact (bigSep_with_persistent (R := opened cv ag κ c) fun d _ => one d).trans (bigSep_fupd _ _)

/-- The scratch buffers, whatever is in them. -/
def scratch (c : Dev nD) : sProp 𝕄 :=
  iprop((∃ f, pt c cc0_scratch0 f) ∗ (∃ f, pt c cc0_scratch1 f) ∗ (∃ f, pt c cc0_scratch2 f) ∗ (∃ f, pt c cc0_scratch3 f) ∗ (∃ f, pt c cc0_scratch4 f))

/-- THE BODY of a device: from its inputs and what the launch gives it, to the result and its counters at zero. -/
theorem wp_bodyAtDev (g5 : Vec F S32x16x768 .f32) (Q : PUnit → sProp 𝕄) :
    iprop(opened (cvOf inp) (agOf inp) κ c ∗ staged c (inp c) ∗ scratch c ∗ pt c cc0_stg5_0 g5 ∗ ticket₁ c ∗ ticket₂ c ∗ owesE c (O₀ c))
    ⊢ iprop(((staged c (inp c) ∗ scratch c ∗ pt c cc0_stg5_0 (k0_pay40 (agOf inp)) ∗ zeroed c ∗ owesE c 0) -∗ Q ⟨⟩)
      -∗ wpc c (bodyAtDev c) Q) := by
  rw [bodyAtDev_eq]
  unfold scratch
  iintro ⟨#HR, HS, ⟨⟨%g0, H0⟩, ⟨%g1, H1⟩, ⟨%g2, H2⟩, ⟨%g3, H3⟩, ⟨%g4, H4⟩⟩, H5, K1, K2, HO⟩ Hk
  iapply (wp_compute c (inp c) g0 g1 g2 _ Q) $$ [HS H0 H1 H2]
  · isplitl [HS]; · iexact HS
    isplitl [H0]; · iexact H0
    isplitl [H1]; · iexact H1
    iexact H2
  iintro ⟨HS, H0, H1, H2⟩
  iapply (wp_first c (cvOf inp) (agOf inp) κ g3 g4 _ Q) $$ [H2 H3 H4 K1 HO]
  · isplitr; · iexact HR
    isplitl [H2]; · iexact H2
    isplitl [H3]; · iexact H3
    isplitl [H4]; · iexact H4
    isplitl [K1]; · iexact K1
    iexact HO
  iintro ⟨H2, H3, H4, HL, Db, D0, D1, HO⟩
  iapply (wp_second inp κ c g4 g5 _ Q) $$ [H1 H3 H4 HL K2 H5 HO]
  · isplitr; · iexact HR
    isplitl [H1]; · iexact H1
    isplitl [H3]; · iexact H3
    isplitl [H4]; · iexact H4
    isplitl [HL]; · iexact HL
    isplitl [K2]; · iexact K2
    isplitl [H5]; · iexact H5
    iexact HO
  iintro ⟨H1, H3, H4, H5, D2, D3, HO⟩
  unfold wpc
  rw [wp_ret]
  imod (close_bar κ c (cvOf inp) (agOf inp)) $$ [Db] with Db
  · isplitr; · iexact HR
    iexact Db
  imod (close_dm κ c (cvOf inp) (agOf inp) 0) $$ [D0] with D0
  · isplitr; · iexact HR
    iexact D0
  imod (close_dm κ c (cvOf inp) (agOf inp) 1) $$ [D1] with D1
  · isplitr; · iexact HR
    iexact D1
  imod (close_dm κ c (cvOf inp) (agOf inp) 2) $$ [D2] with D2
  · isplitr; · iexact HR
    iexact D2
  imod (close_dm κ c (cvOf inp) (agOf inp) 3) $$ [D3] with D3
  · isplitr; · iexact HR
    iexact D3
  imodintro
  iapply Hk
  isplitl [HS]; · iexact HS
  isplitl [H0 H1 H2 H3 H4]
  · isplitl [H0]; · iexists _; iexact H0
    isplitl [H1]; · iexists _; iexact H1
    isplitl [H2]; · iexists _; iexact H2
    isplitl [H3]; · iexact H3
    iexists _; iexact H4
  isplitl [H5]; · iexact H5
  isplitl [Db D0 D1 D2 D3]
  · unfold zeroed
    isplitl [Db]; · iexact Db
    isplitl [D0]; · iexact D0
    isplitl [D1]; · iexact D1
    isplitl [D2]; · iexact D2
    iexact D3
  iexact HO

end Cert.Proof

end
-- ==== Proof.Deal.lean ====
/-
  What the launch gives each device of the protocol: the credit its waits use, the rights to open its cells, and the tokens
  of the duties it pays.

  A receive cell and a barrier cell are paid by another device, so their tokens and the dues on them change hands; `mate` says
  whose they are.
-/
module

public import proofs.«01_k».proof.Proof.Second
public import Idealize.ShloMosaic.Lib.SparseCore.Launch

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The credit -/

theorem owe_eq (f : Fin 31 → CellTallies nD τ sig Unit) (R : CellTallies nD τ sig Unit) : owe f others R = R + ∑ d, f d := by
  have h : ∀ l : List (Fin 31), owe f l R = R + (l.map f).sum := fun l => by
    induction l with
    | nil => rw [owe, List.map_nil, List.sum_nil, add_zero]
    | cons d l ih => rw [owe, ih, List.map_cons, List.sum_cons, add_assoc, add_comm (List.sum _)]
  rw [h, others_univ, List.sum_toFinset f others_nodup]

theorem sum_mate (f : Dev nD → Fin 31 → CellTallies nD τ sig Unit) : ∑ c, ∑ d, f (nx c d) d.rev = ∑ c, ∑ d, f c d := by
  rw [← Fintype.sum_prod_type' f, ← Fintype.sum_prod_type' fun c d => f (nx c d) (Fin.rev d)]
  exact Equiv.sum_comp mate fun x => f x.1 x.2

theorem sum_one (g : GSem nD τ sig) : ∑ _d : Fin 31, (tallyAt g () 1 : CellTallies nD τ sig Unit) = tallyAt g () 31 := by
  have h : ∀ n : ℕ, n • (tallyAt g () 1 : CellTallies nD τ sig Unit) = tallyAt g () n := fun n => by
    induction n with
    | zero => rw [zero_smul]; exact (tallyAt_zero g ()).symm
    | succ n ih => rw [succ_nsmul, ih, tallyAt_add]
  rw [Finset.sum_const, Finset.card_univ, Fintype.card_fin, h]

/-- What device `c` waits for: a unit from every other device, a block from each in each exchange. -/
def waits (c : Dev nD) : CellTallies nD τ sig Unit :=
  (∑ d : Fin 31, tallyAt (dmCell 3 c d) () N + ∑ d : Fin 31, tallyAt (dmCell 1 c d) () N) + tallyAt (barCell c) () 31

theorem sum_owed : ∑ c, O₀ c = ∑ c, waits c := by
  have h (c : Dev nD) : O₀ c = (∑ d, agT c d + ∑ d, rsT c d) + ∑ d, barT c d := by
    unfold O₀ O₁ O₂; rw [owe_eq, owe_eq, owe_eq, zero_add]
  rw [Finset.sum_congr rfl fun c _ => h c]
  unfold waits
  rw [Finset.sum_add_distrib, Finset.sum_add_distrib, Finset.sum_add_distrib, Finset.sum_add_distrib,
    ← sum_mate fun c d => tallyAt (dmCell 3 c d) () N, ← sum_mate fun c d => tallyAt (dmCell 1 c d) () N,
    Finset.sum_congr rfl fun c _ => (sum_one (barCell c)).symm, ← sum_mate fun c d => tallyAt (barCell c) () 1]

theorem waits_own (c : Dev nD) (g : GSem nD τ sig) (h : waits c g ≠ 0) : g.1 = (c.tc : Thread nD τ) := by
  by_contra hn
  have h0 (sm : SemLoc sig) (n : ℕ) : (tallyAt ((c : Thread nD τ), sm) () n : CellTallies nD τ sig Unit) g = 0 :=
    tallyAt_ne_cell (g := ((c : Thread nD τ), sm)) (fun h => hn (congrArg Prod.fst h)) () n
  refine h ?_
  unfold waits
  rw [Pi.add_apply, Pi.add_apply, Finset.sum_apply, Finset.sum_apply, h0, Finset.sum_eq_zero fun d _ => h0 _ _,
    Finset.sum_eq_zero fun d _ => h0 _ _, add_zero, add_zero]

theorem launch_cred (c : Dev nD) : (Pipeline.launchCred O₀ c : sProp 𝕄)
    ⊢ iprop(((bigSep Finset.univ fun d : Fin 31 => cred (tallyAt (dmCell 3 c d) () N)) ∗ (bigSep Finset.univ fun d : Fin 31 => cred (tallyAt (dmCell 1 c d) () N)))
      ∗ cred (tallyAt (barCell c) () 31)) := by
  rw [Pipeline.launchCred_of_sum O₀ waits sum_owed waits_own c]
  unfold waits
  rw [SparseCore.Cfg.cred_add_eq, SparseCore.Cfg.cred_add_eq, SparseCore.Cfg.cred_finsum, SparseCore.Cfg.cred_finsum]

/-! ## The tokens -/

/-- The duties: of a barrier cell all 31, of a copy's cell the one. -/
def dutyAt (x : Dev nD × Fin 5 × Fin 31) : GSem nD τ sig × ℕ × Fin 31 :=
  Fin.cases (barCell x.1, 0, x.2.2) (fun a => (dmCell a x.1 x.2.2, 0, 0)) x.2.1

theorem dutyAt_inj : Function.Injective dutyAt := by
  rintro ⟨c, k, d⟩ ⟨c', k', d'⟩ h
  cases k using Fin.cases <;> cases k' using Fin.cases
  · obtain rfl : c = c' := congrArg (fun t : GSem nD τ sig × ℕ × Fin 31 => t.1.1.1) h
    obtain rfl : d = d' := congrArg (fun t : GSem nD τ sig × ℕ × Fin 31 => t.2.2) h
    rfl
  · have h := congrArg (fun t : GSem nD τ sig × ℕ × Fin 31 => kind t.1.2) h
    simp only [dutyAt, Fin.cases_zero, Fin.cases_succ, kind_dm, kind_bar] at h
    cases h
  · have h := congrArg (fun t : GSem nD τ sig × ℕ × Fin 31 => kind t.1.2) h
    simp only [dutyAt, Fin.cases_zero, Fin.cases_succ, kind_dm, kind_bar] at h
    cases h
  · have h1 : c = c' := congrArg (fun t : GSem nD τ sig × ℕ × Fin 31 => t.1.1.1) h
    have h := congrArg (fun t : GSem nD τ sig × ℕ × Fin 31 => kind t.1.2) h
    simp only [dutyAt, Fin.cases_succ, kind_dm] at h
    injection h with ha hd
    subst h1 ha hd
    rfl

def duties : Finset (GSem nD τ sig × ℕ × Fin 31) := Finset.univ.map ⟨dutyAt, dutyAt_inj⟩

theorem disjoint_cells : Disjoint barCells dmCells := by
  rw [Finset.disjoint_left]
  rintro g h₁ h₂
  obtain ⟨c, -, rfl⟩ := Finset.mem_map.mp h₁
  obtain ⟨x, -, h⟩ := Finset.mem_map.mp h₂
  have h := congrArg (fun g : GSem nD τ sig => kind g.2) h
  have h' : kind (osem (x.2.1, x.2.2.succ)) = kind (SemLoc.reg barrier0) := h
  rw [kind_dm] at h'
  cases h'

/-- The tokens of the duties that device `c` pays. -/
def tokens (c : Dev nD) : sProp 𝕄 :=
  iprop((bigSep Finset.univ fun d : Fin 31 => dutyTok ER (barCell (nx c d)) 0 d.rev)
    ∗ (bigSep Finset.univ fun d : Fin 31 => dutyTok ER (dmCell 0 c d) 0 0)
    ∗ (bigSep Finset.univ fun d : Fin 31 => dutyTok ER (dmCell 1 (nx c d) d.rev) 0 0)
    ∗ (bigSep Finset.univ fun d : Fin 31 => dutyTok ER (dmCell 2 c d) 0 0)
    ∗ (bigSep Finset.univ fun d : Fin 31 => dutyTok ER (dmCell 3 (nx c d) d.rev) 0 0))

theorem bigSep_mate (Φ : Dev nD → Fin 31 → sProp 𝕄) : (bigSep Finset.univ fun c => bigSep Finset.univ fun d => Φ c d)
    = bigSep Finset.univ fun c => bigSep Finset.univ fun d : Fin 31 => Φ (nx c d) d.rev := by
  rw [← bigSep_univ_prod fun x : Dev nD × Fin 31 => Φ x.1 x.2, bigSep_univ_equiv mate]
  exact bigSep_univ_prod fun x : Dev nD × Fin 31 => Φ (nx x.1 x.2) x.2.rev

theorem deal_tokens : (bigSep duties fun x => (dutyTok ER x.1 x.2.1 x.2.2 : sProp 𝕄)) = bigSep Finset.univ fun c => tokens (F := F) c := by
  have h : (bigSep duties fun x => (dutyTok ER x.1 x.2.1 x.2.2 : sProp 𝕄))
      = bigSep Finset.univ fun c : Dev nD => iprop((bigSep Finset.univ fun d : Fin 31 => dutyTok ER (barCell c) 0 d)
        ∗ (bigSep Finset.univ fun d : Fin 31 => dutyTok ER (dmCell 0 c d) 0 0) ∗ (bigSep Finset.univ fun d : Fin 31 => dutyTok ER (dmCell 1 c d) 0 0)
        ∗ (bigSep Finset.univ fun d : Fin 31 => dutyTok ER (dmCell 2 c d) 0 0) ∗ (bigSep Finset.univ fun d : Fin 31 => dutyTok ER (dmCell 3 c d) 0 0)) := by
    unfold duties
    rw [BI.bigSep_map, bigSep_univ_prod]
    refine bigSep_congr fun c _ => ?_
    rw [bigSep_univ_prod, bigSep_univ_eq_bigSepL [(0 : Fin 5), 1, 2, 3, 4] (by decide) (by decide)]
    rfl
  rw [h]
  unfold tokens
  simp only [bigSep_sep']
  rw [bigSep_mate fun c d => dutyTok ER (barCell c) 0 d, bigSep_mate fun c d => dutyTok ER (dmCell 1 c d) 0 0,
    bigSep_mate fun c d => dutyTok ER (dmCell 3 c d) 0 0]

/-! ## A device's share of the launch -/

variable (cv : Dev nD → Blocks F) (ag : Blocks F)

/-- The semaphores of the four arrays that no copy uses. -/
def idle (c : Dev nD) : sProp 𝕄 := bigSep Finset.univ fun a : Fin 4 => semVal ((c : Thread nD τ), osem (a, 0)) 0

/-- What the launch leaves with device `c`. -/
def share (c : Dev nD) : sProp 𝕄 :=
  iprop(atPos ER (barCell c) 0 ∅ 0 ∗ (bigSep Finset.univ fun x : Fin 4 × Fin 31 => openTok ER (dmCell x.1 c x.2)) ∗ tokens c
    ∗ ((bigSep Finset.univ fun d : Fin 31 => cred (tallyAt (dmCell 3 c d) () N)) ∗ (bigSep Finset.univ fun d : Fin 31 => cred (tallyAt (dmCell 1 c d) () N)))
      ∗ cred (tallyAt (barCell c) () 31))

/-- What device `c` keeps for its kernel. -/
def kept (c : Dev nD) : sProp 𝕄 := iprop(∃ κ, records cv ag κ ∗ share c)

/-- What device `c` enters its kernel with: its cells open. -/
def entry (c : Dev nD) : sProp 𝕄 := iprop((∃ κ, opened cv ag κ c) ∗ (ticket₁ c ∗ ticket₂ c) ∗ idle c)

theorem ownSems_eq (c : Dev nD) : (Pipeline.ownSems0 osem c : sProp 𝕄)
    = iprop((bigSep Finset.univ fun x : Fin 4 × Fin 31 => semVal (dmCell x.1 c x.2) 0) ∗ idle c) := by
  unfold Pipeline.ownSems0 idle
  rw [bigSep_univ_prod, bigSep_univ_prod fun x : Fin 4 × Fin 31 => (semVal (dmCell x.1 c x.2) 0 : sProp 𝕄), ← bigSep_sep']
  exact bigSep_congr fun a _ => by
    rw [bigSep_univ_succ]
    exact Entails.antisymm BI.sep_comm BI.sep_comm

theorem open_cell (κ : GSem nD τ sig → ℕ) (c : Dev nD) (x : Fin 4 × Fin 31) :
    iprop(records cv ag κ ∗ (openTok ER (dmCell x.1 c x.2) ∗ semVal (dmCell x.1 c x.2) 0))
      ⊢ |={Set.univ}=> iprop(atPos ER (dmCell x.1 c x.2) 0 ∅ 0 ∗ reached ER (dmCell x.1 c x.2) 0) := by
  unfold records
  iintro ⟨⟨#HI, -, -⟩, Ho, Hv⟩
  iapply (Rounds.cell_open ER (Rd cv ag) (g := dmCell x.1 c x.2) (Set.mem_univ (κ (dmCell x.1 c x.2))))
  isplitr
  · iapply (SparseCore.ent (bigSep_elim (Φ := fun g => cellInv ER (Rd cv ag) (κ g) g) (Finset.mem_union_right _ (mem_dmCells x.1 c x.2)))); iexact HI
  isplitl [Ho] <;> iassumption

theorem open_all (κ : GSem nD τ sig → ℕ) (c : Dev nD) :
    iprop(records cv ag κ ∗ ((bigSep Finset.univ fun x : Fin 4 × Fin 31 => openTok ER (dmCell x.1 c x.2)) ∗ bigSep Finset.univ fun x : Fin 4 × Fin 31 => semVal (dmCell x.1 c x.2) 0))
      ⊢ |={Set.univ}=> iprop((bigSep Finset.univ fun x : Fin 4 × Fin 31 => atPos ER (dmCell x.1 c x.2) 0 ∅ 0)
        ∗ bigSep Finset.univ fun x : Fin 4 × Fin 31 => reached ER (dmCell x.1 c x.2) 0) := by
  rw [← bigSep_sep', ← bigSep_sep']
  exact (bigSep_with_persistent fun x _ => open_cell cv ag κ c x).trans (bigSep_fupd _ _)

theorem pair {I : Type} [Fintype I] {Φ Ψ : I → sProp 𝕄} :
    iprop(bigSep Finset.univ Φ ∗ bigSep Finset.univ Ψ) ⊢ bigSep Finset.univ fun x => iprop(Φ x ∗ Ψ x) :=
  Entails.of_eq (bigSep_sep' _ _ _).symm

theorem four (c : Dev nD) : (bigSep Finset.univ fun x : Fin 4 × Fin 31 => (atPos ER (dmCell x.1 c x.2) 0 ∅ 0 : sProp 𝕄))
    = iprop((bigSep Finset.univ fun d : Fin 31 => atPos ER (dmCell 0 c d) 0 ∅ 0) ∗ (bigSep Finset.univ fun d : Fin 31 => atPos ER (dmCell 1 c d) 0 ∅ 0)
      ∗ (bigSep Finset.univ fun d : Fin 31 => atPos ER (dmCell 2 c d) 0 ∅ 0) ∗ (bigSep Finset.univ fun d : Fin 31 => atPos ER (dmCell 3 c d) 0 ∅ 0)) := by
  rw [bigSep_univ_prod, bigSep_univ_eq_bigSepL [(0 : Fin 4), 1, 2, 3] (by decide) (by decide)]
  rfl

theorem enter (c : Dev nD) : iprop(kept cv ag c ∗ Pipeline.ownSems0 osem c) ⊢ |={Set.univ}=> entry cv ag c := by
  rw [ownSems_eq]
  unfold kept share entry tokens
  iintro ⟨⟨%κ, #HR, Hab, Ho, ⟨Tb, T0, T1, T2, T3⟩, ⟨C3, C1⟩, Cb⟩, Hv, Hi⟩
  imod (open_all cv ag κ c) $$ [Ho Hv] with ⟨Ha, #Hr⟩
  · isplitr; · iexact HR
    isplitl [Ho] <;> iassumption
  imodintro
  ihave Ha := (Entails.of_eq (four c)) $$ Ha
  icases Ha with ⟨A0, A1, A2, A3⟩
  isplitr
  · iexists κ; unfold opened
    isplitr; · iexact HR
    iexact Hr
  isplitr [Hi]
  · unfold ticket₁ ticket₂ waitTake
    isplitl [Cb Hab Tb T0 T1 A0 C1 A1]
    · isplitl [Cb Hab]; · isplitl [Cb] <;> iassumption
      isplitl [Tb]; · iexact Tb
      isplitl [T0]; · iexact T0
      isplitl [T1]; · iexact T1
      isplitl [A0]; · iexact A0
      iapply pair
      isplitl [C1] <;> iassumption
    · isplitl [T2]; · iexact T2
      isplitl [T3]; · iexact T3
      isplitl [A2]; · iexact A2
      iapply pair
      isplitl [C3] <;> iassumption
  · iexact Hi

end Cert.Proof

end
-- ==== Proof.Region.lean ====
/-
  The kernel's region: the staged inputs are the arrays as the host operations before it leave them, the body is that of
  one device, and afterwards the result array holds the gathered sums and every semaphore of the kernel reads zero.
-/
module

public import proofs.«01_k».proof.Proof.Deal
public import proofs.«01_k».proof.Proof.Gen.KernelIdeal.Launch
public import proofs.«01_k».proof.Proof.Gen.KernelIdeal.Frame
public import Idealize.ShloMosaic.Lib.Pipeline.ValueKit

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The inputs of device `c`'s kernel. -/
def inpOf (c : Dev nD) : Ins F where
  x := V m c main_v1
  wq := V m c main_arg1
  wo := V m c main_arg2
  k := V m c main_v2
  v := V m c main_v3

/-- A window spans its whole array, so its block is the array. -/
theorem blk_x (c : Dev nD) : iblk m c 0 t0_0 = (inpOf m c).x :=
  funext fun y => congrArg (V m c main_v1) (funext fun a => Fin.ext (Window.rect_emb_val_of_index_zero (cfg0.win 0) t0_0 a rfl y))
theorem blk_wq (c : Dev nD) : iblk m c 1 t0_0 = (inpOf m c).wq :=
  funext fun y => congrArg (V m c main_arg1) (funext fun a => Fin.ext (Window.rect_emb_val_of_index_zero (cfg0.win 1) t0_0 a rfl y))
theorem blk_wo (c : Dev nD) : iblk m c 2 t0_0 = (inpOf m c).wo :=
  funext fun y => congrArg (V m c main_arg2) (funext fun a => Fin.ext (Window.rect_emb_val_of_index_zero (cfg0.win 2) t0_0 a rfl y))
theorem blk_k (c : Dev nD) : iblk m c 3 t0_0 = (inpOf m c).k :=
  funext fun y => congrArg (V m c main_v2) (funext fun a => Fin.ext (Window.rect_emb_val_of_index_zero (cfg0.win 3) t0_0 a rfl y))
theorem blk_v (c : Dev nD) : iblk m c 4 t0_0 = (inpOf m c).v :=
  funext fun y => congrArg (V m c main_v3) (funext fun a => Fin.ext (Window.rect_emb_val_of_index_zero (cfg0.win 4) t0_0 a rfl y))

/-! ## The region's data -/

abbrev cvs : Dev nD → Blocks F := cvOf (inpOf m)
abbrev ags : Blocks F := agOf (inpOf m)

def phi (c : Dev nD) (t : Fin (cfg0.N + 1)) : sProp 𝕄 :=
  if t.val = 0 then iprop(scratch c ∗ (∃ r, prngReg c r) ∗ entry (cvs m) (ags m) c)
  else iprop(scratch c ∗ (∃ r, prngReg c r) ∗ zeroed c ∗ idle c)

def dat0 (c : Dev nD) : Dat τ (Elt F) Unit ℕ UU ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => k0_pay40 (ags m)
  Φ := phi m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem at_first : (t0_0.castSucc : Fin (cfg0.N + 1)).val = 0 := rfl
theorem at_then : ¬ (t0_0.succ : Fin (cfg0.N + 1)).val = 0 := by rw [Fin.val_succ]; exact Nat.succ_ne_zero _

theorem phi_first (c : Dev nD) : (dat0 m c).Φ t0_0.castSucc = iprop(scratch c ∗ (∃ r, prngReg c r) ∗ entry (cvs m) (ags m) c) := by
  dsimp only [dat0]; unfold phi; rw [if_pos at_first]
theorem phi_then (c : Dev nD) : (dat0 m c).Φ t0_0.succ = iprop(scratch c ∗ (∃ r, prngReg c r) ∗ zeroed c ∗ idle c) := by
  dsimp only [dat0]; unfold phi; rw [if_neg at_then]
theorem owed_first (c : Dev nD) : (dat0 m c).owed t0_0.castSucc = O₀ c := by
  dsimp only [dat0]; rw [if_pos at_first]
theorem owed_then (c : Dev nD) : (dat0 m c).owed t0_0.succ = 0 := by
  dsimp only [dat0]; rw [if_neg at_then]

/-- An input's staging buffer holds its array. -/
theorem before_x (c : Dev nD) (d) : (dat0 m c).before 0 t0_0 d = (inpOf m c).x := by
  unfold Dat.before; rw [if_pos (fetch0_0 _)]; exact blk_x m c
theorem before_wq (c : Dev nD) (d) : (dat0 m c).before 1 t0_0 d = (inpOf m c).wq := by
  unfold Dat.before; rw [if_pos (fetch0_1 _)]; exact blk_wq m c
theorem before_wo (c : Dev nD) (d) : (dat0 m c).before 2 t0_0 d = (inpOf m c).wo := by
  unfold Dat.before; rw [if_pos (fetch0_2 _)]; exact blk_wo m c
theorem before_k (c : Dev nD) (d) : (dat0 m c).before 3 t0_0 d = (inpOf m c).k := by
  unfold Dat.before; rw [if_pos (fetch0_3 _)]; exact blk_k m c
theorem before_v (c : Dev nD) (d) : (dat0 m c).before 4 t0_0 d = (inpOf m c).v := by
  unfold Dat.before; rw [if_pos (fetch0_4 _)]; exact blk_v m c

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owesAt_in (c : Dev nD) (t) (O : CellTallies nD τ sig Unit) (h : (dat0 m c).owed t = O) : owesE c O ⊢ (dat0 m c).owesAt () t := by
  unfold Dat.owesAt Pipeline.owesWithin Dat.bound owesE
  rw [h, show (dat0 m c).recorded t = Set.univ from rfl]
  iintro ⟨%W, HO⟩
  iexists W
  isplitr
  · ipureintro; exact fun _ _ => Or.inl trivial
  iexact HO
theorem owesAt_out (c : Dev nD) (t) (O : CellTallies nD τ sig Unit) (h : (dat0 m c).owed t = O) : (dat0 m c).owesAt () t ⊢ owesE c O := by
  unfold Dat.owesAt Pipeline.owesWithin owesE
  rw [h]
  iintro ⟨%W, -, HO⟩
  iexists W
  iexact HO

/-- The region calls the body at its one point: on device `c`, the body of `c`. -/
theorem called : (defs₀ (F := F) Proc.tc 0 (t0_0, cfg0.slots t0_0) : Prog (TpuEff nD τ sig (Elt F) Λ₀ .tc) PUnit) = .op .deviceId fun c => bodyAtDev c := by
  exact body_eq (F := F) t0_0
theorem wp_called (c : Dev nD) (Q : PUnit → sProp 𝕄) :
    wpc c (bodyAtDev c) Q ⊢ wp frame (wpE defs₀ 𝒱₀ (c : Thread nD τ) none) Set.univ (defs₀ (F := F) Proc.tc 0 (t0_0, cfg0.slots t0_0)) Q := by
  rw [called, wp_deviceId]

set_option maxRecDepth 8000 in
theorem body (c : Dev nD) : BodyObligation (dat0 m c) (defs₀ (F := F)) 𝒱₀ () Set.univ := fun t => by
  obtain rfl := fin_N0 t
  rw [bigSep_W0, bigSep_W0]
  simp only [owns_whole_eq]
  rw [phi_first, phi_then]
  iintro ⟨⟨Hs, Hp, He⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  rw [before_x m c] at h0
  rw [before_wq m c] at h1
  rw [before_wo m c] at h2
  rw [before_k m c] at h3
  rw [before_v m c] at h4
  subst h0 h1 h2 h3 h4
  unfold entry
  icases He with ⟨⟨%κ, #HR⟩, ⟨Ht1, Ht2⟩, Hi⟩
  ihave HO := (owesAt_out m c _ (O₀ c) (owed_first m c)) $$ HO
  iapply (wp_called c _)
  iapply (wp_bodyAtDev (inpOf m) κ c f5 _) $$ [H0 H1 H2 H3 H4 H5 Hs Ht1 Ht2 HO]
  · unfold staged
    isplitr; · iexact HR
    isplitl [H0 H1 H2 H3 H4]
    · isplitl [H0]; · iexact H0
      isplitl [H1]; · iexact H1
      isplitl [H2]; · iexact H2
      isplitl [H3]; · iexact H3
      iexact H4
    isplitl [Hs]; · iexact Hs
    isplitl [H5]; · iexact H5
    isplitl [Ht1]; · iexact Ht1
    isplitl [Ht2]; · iexact Ht2
    iexact HO
  unfold staged
  iintro ⟨⟨H0, H1, H2, H3, H4⟩, Hs, H5, Hz, HO⟩
  isplitl [Hs Hp Hz Hi]
  · isplitl [Hs]; · iexact Hs
    isplitl [Hp]; · iexact Hp
    isplitl [Hz]; · iexact Hz
    iexact Hi
  isplitl [HO]
  · iapply (owesAt_in m c _ 0 (owed_then m c)); iexact HO
  isplitl [H0]
  · iexists (inpOf m c).x; isplitr; · ipureintro; exact (blk_x m c).symm
    iexact H0
  isplitl [H1]
  · iexists (inpOf m c).wq; isplitr; · ipureintro; exact (blk_wq m c).symm
    iexact H1
  isplitl [H2]
  · iexists (inpOf m c).wo; isplitr; · ipureintro; exact (blk_wo m c).symm
    iexact H2
  isplitl [H3]
  · iexists (inpOf m c).k; isplitr; · ipureintro; exact (blk_k m c).symm
    iexact H3
  isplitl [H4]
  · iexists (inpOf m c).v; isplitr; · ipureintro; exact (blk_v m c).symm
    iexact H4
  iexists (k0_pay40 (ags m)); isplitr; · ipureintro; rfl
  iexact H5

end Cert.Proof

end
-- ==== Proof.Talk.lean ====
/-
  The region as a segment of a device's program: entered with what the launch leaves with the device, its counters opened
  at the entry; left with the result array at the gathered sums and every counter at zero.
-/
module

public import proofs.«01_k».proof.Proof.Region
public import Idealize.ShloMosaic.Lib.Pipeline.RegionTalk

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The contents after the region: the result array holds the gathered sums. -/
def V₂ (c : Dev nD) : Valuation τ sig (Elt F) := Function.update (V0 m c) (Proc.devRef .tc main_v4) (k0_pay40 (ags m))

theorem V₂_out (c : Dev nD) : V₂ m c (Proc.devRef .tc main_v4) = k0_pay40 (ags m) := Function.update_self _ _ _
theorem V₂_ne (c : Dev nD) (b : DevRef τ sig) (h : b ≠ Proc.devRef .tc main_v4) : V₂ m c b = V0 m c b := Function.update_of_ne h _ _

/-- The unscoped buffers that are no window's array. -/
def rest : Finset (DevRef τ sig) := Pipeline.ucRefs τ sig \ Pipeline.arrRefs spec0

theorem arr_rest (c : Dev nD) (W : Valuation τ sig (Elt F)) :
    (StableHlo.held (c : Thread nD τ) (Pipeline.ucRefs τ sig) W : sProp 𝕄)
      = iprop(StableHlo.held (c : Thread nD τ) (Pipeline.arrRefs spec0) W ∗ StableHlo.held (c : Thread nD τ) rest W) :=
  StableHlo.held_sub_split _ (Pipeline.arrRefs_sub_ucRefs spec0 winFacts0.arr_unscoped) W

theorem v4_arr : Proc.devRef .tc main_v4 ∈ Pipeline.arrRefs (τ := τ) spec0 := by decide

theorem keeps_rest (c : Dev nD) : ∀ b ∈ rest \ (∅ : Finset (DevRef τ sig)), V₂ m c b = V0 m c b := fun b hb =>
  V₂_ne m c b fun h => (Finset.mem_sdiff.mp (Finset.mem_sdiff.mp hb).1).2 (h ▸ v4_arr)

theorem sems_back (c : Dev nD) :
    iprop(zeroed c ∗ idle c) ⊢ (iprop(Pipeline.ownSems0 osem c ∗ semVal (barCell c) 0) : sProp 𝕄) := by
  rw [ownSems_eq, bigSep_univ_prod, bigSep_univ_eq_bigSepL [(0 : Fin 4), 1, 2, 3] (by decide) (by decide)]
  show _ ⊢ iprop((((bigSep Finset.univ fun d : Fin 31 => semVal (dmCell 0 c d) 0) ∗ (bigSep Finset.univ fun d : Fin 31 => semVal (dmCell 1 c d) 0)
    ∗ (bigSep Finset.univ fun d : Fin 31 => semVal (dmCell 2 c d) 0) ∗ (bigSep Finset.univ fun d : Fin 31 => semVal (dmCell 3 c d) 0)) ∗ idle c) ∗ semVal (barCell c) 0)
  unfold zeroed
  iintro ⟨⟨Hb, H0, H1, H2, H3⟩, Hi⟩
  isplitr [Hb]
  · isplitr [Hi]
    · isplitl [H0]; · iexact H0
      isplitl [H1]; · iexact H1
      isplitl [H2]; · iexact H2
      iexact H3
    iexact Hi
  iexact Hb

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem ownFacts : Pipeline.OwnSemFacts spec0 osem := by decide +kernel

theorem owed_all (c : Dev nD) (t : Fin (cfg0.N + 1)) (g : GSem nD τ sig) (i : Unit) (h : 0 < (dat0 m c).owed t g i) : i ∈ L g ∧ (0 : ℕ) < lv g i := by
  dsimp only [dat0] at h
  split at h
  · exact O₀_pos h
  · exact absurd h (Nat.lt_irrefl 0)

theorem stage_low : ∀ (w : Fin 6) (s : Fin (spec0 w).nbuf), lvOf (kind (.dma ((spec0 w).sem s) : SemLoc sig)) = 0 := by decide

theorem hopen0 (c : Dev nD) : iprop(kept (cvs m) (ags m) c ∗ Pipeline.ownSems0 osem c ∗ levAts L lv) ⊢ (|={Set.univ}=> entry (cvs m) (ags m) c : sProp 𝕄) := by
  iintro ⟨Hk, Ho, -⟩
  iapply (enter (cvs m) (ags m) c)
  isplitl [Hk] <;> iassumption

theorem hin0 (c : Dev nD) : iprop(Pipeline.scopedRest spec0 c ∗ (∃ r, prngReg c r) ∗ StableHlo.held (c : Thread nD τ) ∅ (V0 m c) ∗ entry (cvs m) (ags m) c)
    ⊢ (dat0 m c).Φ t0_0.castSucc := by
  rw [phi_first, scopedRest0_eq]
  unfold scratch
  iintro ⟨Hs, Hp, -, He⟩
  isplitl [Hs]; · iexact Hs
  isplitl [Hp]; · iexact Hp
  iexact He

theorem hout0 (c : Dev nD) : (dat0 m c).Φ t0_0.succ
    ⊢ iprop(Pipeline.scopedRest spec0 c ∗ (∃ r, prngReg c r) ∗ StableHlo.held (c : Thread nD τ) ∅ (V₂ m c) ∗ Pipeline.ownSems0 osem c ∗ semVal (barCell c) 0) := by
  rw [phi_then, scopedRest0_eq]
  unfold scratch
  iintro ⟨Hs, Hp, Hz, Hi⟩
  isplitl [Hs]; · iexact Hs
  isplitl [Hp]; · iexact Hp
  isplitr
  · unfold StableHlo.held; rw [BI.bigSep_empty]; iempintro
  iapply (sems_back c)
  isplitl [Hz] <;> iassumption

theorem arr_then (c : Dev nD) : ∀ w : Fin 6, (dat0 m c).arrAt w cfg0.N = V₂ m c (Proc.devRef .tc (Pipeline.arrRef spec0 w))
  | 0 => ((dat0 m c).arrAt_in 0 rfl _).trans (V₂_ne m c (Proc.devRef .tc main_v1) (by decide)).symm
  | 1 => ((dat0 m c).arrAt_in 1 rfl _).trans (V₂_ne m c (Proc.devRef .tc main_arg1) (by decide)).symm
  | 2 => ((dat0 m c).arrAt_in 2 rfl _).trans (V₂_ne m c (Proc.devRef .tc main_arg2) (by decide)).symm
  | 3 => ((dat0 m c).arrAt_in 3 rfl _).trans (V₂_ne m c (Proc.devRef .tc main_v2) (by decide)).symm
  | 4 => ((dat0 m c).arrAt_in 4 rfl _).trans (V₂_ne m c (Proc.devRef .tc main_v3) (by decide)).symm
  | 5 => (Dat.arrAt_eq_of_after_last (dat := dat0 m c) 5 t0_0 (by decide +kernel) (k0_pay40 (ags m)) fun j => rfl).trans (V₂_out m c).symm

theorem shares (c : Dev nD) (w : Fin 6) : (dat0 m c).share w = fullShare := by unfold Dat.share; split <;> rfl

set_option backward.isDefEq.respectTransparency.types false in
/-- THE REGION. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem ownFacts
    ∅ rest (Finset.empty_subset _) kitP rfl (fun c => (body m c).loose)
    (fun _ => 0) O₀ (fun c => (owed_first m c).trans (zero_add _).symm) (fun c => owed_then m c) (fun _ => rfl) (fun c w => shares m c w)
    (V0 m) (V₂ m) (keeps_rest m)
    (kept (cvs m) (ags m)) (fun c => semVal (barCell c) 0) (entry (cvs m) (ags m)) (fun c => semVal (barCell c) 0) (hopen0 m) (hin0 m) (hout0 m)
    (fun c => by iintro H; imodintro; iexact H)
    (fun _ => 0)
    ⟨fun c w s => mem_L c _ (), fun c w s => le_of_eq (stage_low w s), fun c t g i h => owed_all m c t g i h⟩
    (fun _ => iprop(emp))
    (fun c w => rfl) (arr_then m)

end Cert.Proof

end
-- ==== Proof.Run.lean ====
/-
  The whole program: the host operations before the region, the region, the host operation after it. The launch deals each
  device its counters and its rights; every run ends with the arguments as they were, the result at the gathered sums
  reshaped, and every semaphore at zero.
-/
module

public import proofs.«01_k».proof.Proof.Talk
public import Idealize.ShloMosaic.Lib.Pipeline.Regions

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The segments -/

/-- What rides past the first host operations. -/
def ride₀ (c : Dev nD) : sProp 𝕄 := iprop((∃ r, prngReg c r) ∗ kept (cvs m) (ags m) c ∗ ∃ W, owes (c : Thread nD τ) (O₀ c) W)
/-- What rides past the last one. -/
def ride₁ (c : Dev nD) : sProp 𝕄 := iprop(semVal (barCell c) 0 ∗ ∃ W, owes (c : Thread nD τ) (0 : CellTallies nD τ sig Unit) W)

def seg0 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (List.forall_iff_forall_mem.mp hostOps0_fresh) (fun c b => m (c, b)) (ride₀ m)
def seg1 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (List.forall_iff_forall_mem.mp hostOps1_fresh) (V₂ m) ride₁

def segs : List (Pipeline.Seg (pcfgs (F := F)) adm (pdats m) () defs₀ 𝒱₀ L lv) := [.host (seg0 m), .region (reg0 m), .host (seg1 m)]

theorem main_eq (c : Dev nD) : main (F := F) c = Pipeline.Seg.run (segs m) := main_segs adm (pdats m) () 𝒱₀ L lv (seg0 m) (seg1 m) (reg0 m) rfl rfl c

/-- The contents at the end. -/
abbrev V₃ (c : Dev nD) : Valuation τ sig (Elt F) := StableHlo.after hostOps1 (V₂ m c)

abbrev T₀ (c : Dev nD) : sProp 𝕄 := iprop(StableHlo.held (c : Thread nD τ) (Pipeline.ucRefs τ sig) (fun b => m (c, b)) ∗ ride₀ m c)
abbrev Tₙ (c : Dev nD) : sProp 𝕄 := iprop(StableHlo.held (c : Thread nD τ) (Pipeline.ucRefs τ sig) (V₃ m c) ∗ semVal (barCell c) 0)

theorem into_region (c : Dev nD) : iprop(StableHlo.held (c : Thread nD τ) (Pipeline.ucRefs τ sig) (V0 m c) ∗ ride₀ m c) ⊢ (reg0 m).pre c := by
  show _ ⊢ iprop(StableHlo.held (c : Thread nD τ) (Pipeline.arrRefs spec0) (V0 m c) ∗ (∃ r, prngReg c r)
    ∗ (StableHlo.held (c : Thread nD τ) rest (V0 m c) ∗ emp) ∗ kept (cvs m) (ags m) c ∗ ∃ Wd, owes (c : Thread nD τ) (0 + O₀ c) Wd)
  rw [arr_rest, zero_add]
  unfold ride₀
  iintro ⟨⟨Ha, Hr⟩, Hp, Hk, HO⟩
  isplitl [Ha]; · iexact Ha
  isplitl [Hp]; · iexact Hp
  isplitl [Hr]
  · isplitl [Hr]; · iexact Hr
    iempintro
  isplitl [Hk]; · iexact Hk
  iexact HO

theorem out_of_region (c : Dev nD) : (reg0 m).post c ⊢ iprop(StableHlo.held (c : Thread nD τ) (Pipeline.ucRefs τ sig) (V₂ m c) ∗ ride₁ c) := by
  show iprop(StableHlo.held (c : Thread nD τ) (Pipeline.arrRefs spec0) (V₂ m c) ∗ (∃ r, prngReg c r)
    ∗ (StableHlo.held (c : Thread nD τ) rest (V₂ m c) ∗ emp) ∗ semVal (barCell c) 0 ∗ ∃ Wd, owes (c : Thread nD τ) (0 : CellTallies nD τ sig Unit) Wd) ⊢ _
  rw [arr_rest]
  unfold ride₁
  iintro ⟨Ha, -, ⟨Hr, -⟩, Hb, HO⟩
  isplitl [Ha Hr]
  · isplitl [Ha] <;> iassumption
  isplitl [Hb]; · iexact Hb
  iexact HO

theorem at_end (c : Dev nD) : iprop(StableHlo.held (c : Thread nD τ) (Pipeline.ucRefs τ sig) (V₃ m c) ∗ ride₁ c)
    ⊢ iprop(Tₙ m c ∗ ∃ W, owes (c : Thread nD τ) (0 : CellTallies nD τ sig Unit) W) := by
  unfold ride₁
  iintro ⟨Hh, Hb, HO⟩
  isplitr [HO]
  · isplitl [Hh] <;> iassumption
  iexact HO

/-! ## The launch -/

/-- The launch element: the pipeline's at the staging cells, the exchange's at its own. -/
def u₀ : UU :=
  (initOf (Pipeline.cells (Pipeline.pin (pcfgs (F := F)) adm) cellOf_inj) (Pipeline.launchToks (Pipeline.pin (pcfgs (F := F)) adm) cellOf_inj),
    launchOf barCells dmCells duties)

/-- The exchange's element goes to the launch's one global step whole: device 0 carries it. -/
def G (c : Dev nD) : sProp 𝕄 := if c = 0 then BI.own (ER (launchOf barCells dmCells duties)) else iprop(emp)

theorem G_zero : bigSep Finset.univ (G (F := F)) = BI.own (ER (launchOf barCells dmCells duties)) := by
  have h0 : G (F := F) 0 = BI.own (ER (launchOf barCells dmCells duties)) := if_pos rfl
  have h (c : Dev nD) (hc : c ∈ Finset.univ.erase (0 : Dev nD)) : G (F := F) c = BI.emp := if_neg (Finset.ne_of_mem_erase hc)
  rw [bigSep_univ_at _ (0 : Dev nD), bigSep_congr h, BI.bigSep_emp_const, h0]
  exact BI.equiv_iff.mp sep_emp

theorem own_split (a : _) (b : _) : (ownU ((a, b) : UU) : sProp 𝕄) ⊢ iprop(BI.own (EP a) ∗ BI.own (ER b)) :=
  BI.own_op_elim ((uEmb : UEmb UU 𝕄).toEmb.op_of_mem (Prod.mk_mem_op (URA.mem_op_one a) (URA.mem_one_op b)))

theorem unscoped_bar (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

theorem unpair {I : Type} [Fintype I] {Φ Ψ : I → sProp 𝕄} :
    bigSep Finset.univ (fun x => iprop(Φ x ∗ Ψ x)) ⊢ iprop(bigSep Finset.univ Φ ∗ bigSep Finset.univ Ψ) :=
  Entails.of_eq (bigSep_sep' _ _ _)

/-- Over the barrier cells, one per device. -/
theorem over_bar (Φ : GSem nD τ sig → sProp 𝕄) : bigSep barCells Φ = bigSep Finset.univ fun c : Dev nD => Φ (barCell c) := by
  unfold barCells; rw [BI.bigSep_map]; rfl
/-- Over the copies' cells, 124 per device. -/
theorem over_dm (Φ : GSem nD τ sig → sProp 𝕄) :
    bigSep dmCells Φ = bigSep Finset.univ fun c : Dev nD => bigSep Finset.univ fun x : Fin 4 × Fin 31 => Φ (dmCell x.1 c x.2) := by
  unfold dmCells; rw [BI.bigSep_map, bigSep_univ_prod]; rfl

/-- What of a device's holdings at the launch its own cells do not need. -/
def own₀ (c : Dev nD) : sProp 𝕄 :=
  iprop(StableHlo.held (c : Thread nD τ) (Pipeline.ucRefs τ sig) (fun b => m (c, b)) ∗ (∃ r, prngReg c r) ∗ owes (c : Thread nD τ) (O₀ c) ∅
    ∗ ((bigSep Finset.univ fun d : Fin 31 => cred (tallyAt (dmCell 3 c d) () N)) ∗ (bigSep Finset.univ fun d : Fin 31 => cred (tallyAt (dmCell 1 c d) () N)))
    ∗ cred (tallyAt (barCell c) () 31))

theorem launch_core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(own₀ m c ∗ (semVal (barCell c) 0 ∗ G c)) : sProp 𝕄) := by
  rw [show unscopedBufs c (fun b => m ((c : Thread nD τ).loc b)) = StableHlo.held (c : Thread nD τ) (Pipeline.ucRefs τ sig) (fun b => m (c, b)) from
    Pipeline.unscopedBufs_held c (fun b => m (c, b)), unscoped_bar]
  unfold own₀
  iintro ⟨Hh, Hus, HO, Hcr, Hp, HG⟩
  ihave Hc := (launch_cred (F := F) c) $$ Hcr
  icases Hc with ⟨H1, H2⟩
  isplitr [Hus HG]
  · isplitl [Hh]; · iexact Hh
    isplitl [Hp]; · iexists (ρ c); iexact Hp
    isplitl [HO]; · iexact HO
    isplitl [H1] <;> iassumption
  isplitl [Hus] <;> iassumption

theorem start (κ : GSem nD τ sig → ℕ) (c : Dev nD) :
    iprop(records (cvs m) (ags m) κ ∗ ((atPos ER (barCell c) 0 ∅ 0 ∗ ((bigSep Finset.univ fun x : Fin 4 × Fin 31 => openTok ER (dmCell x.1 c x.2)) ∗ tokens c)) ∗ own₀ m c))
      ⊢ T₀ m c := by
  unfold own₀ T₀ ride₀ kept share
  iintro ⟨#HR, ⟨Ha, Ho, Ht⟩, Hh, Hp, HO, HC, Hb⟩
  isplitl [Hh]; · iexact Hh
  isplitl [Hp]; · iexact Hp
  isplitr [HO]
  · iexists κ
    isplitr; · iexact HR
    isplitl [Ha]; · iexact Ha
    isplitl [Ho]; · iexact Ho
    isplitl [Ht]; · iexact Ht
    isplitl [HC] <;> iassumption
  iexists ∅; iexact HO

/-- The launch's global step: the barrier counters fund their cells, the copies' cells are funded without their counters,
    and every device gets its rights. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, #HL⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(own₀ m c ∗ (semVal (barCell c) 0 ∗ G c)) : sProp 𝕄) from bigSep_mono fun c _ => launch_core m ρ c) $$ H
  ihave H2 := unpair $$ H'
  icases H2 with ⟨HB, H3⟩
  ihave H4 := unpair $$ H3
  icases H4 with ⟨Hv, HG⟩
  ihave Hu := (Entails.of_eq (G_zero (F := F))) $$ HG
  ihave Hv := (Entails.of_eq (over_bar (F := F) (fun g => semVal g 0)).symm) $$ Hv
  imod (Rounds.fund_launch ER (Rd (cvs m) (ags m)) disjoint_cells (fun g _ h => h) duties) $$ [Hv Hu] with ⟨%κ, -, #Hinv, #Hr, Hat, Hopen, Htok⟩
  · isplitl [Hv] <;> iassumption
  ihave Hat := (Entails.of_eq (over_bar (F := F) (fun g => atPos ER g 0 ∅ 0))) $$ Hat
  ihave Hopen := (Entails.of_eq (over_dm (F := F) (fun g => openTok ER g))) $$ Hopen
  ihave Htok := (Entails.of_eq (deal_tokens (F := F))) $$ Htok
  imodintro
  iapply (bigSep_with_persistent (R := records (cvs m) (ags m) κ)
    (Φ := fun c => iprop((atPos ER (barCell c) 0 ∅ 0 ∗ ((bigSep Finset.univ fun x : Fin 4 × Fin 31 => openTok ER (dmCell x.1 c x.2)) ∗ tokens c)) ∗ own₀ m c))
    fun c _ => start m κ c)
  isplitr
  · unfold records levels
    isplitr; · iexact Hinv
    isplitr; · iexact Hr
    iexact HL
  iapply pair
  isplitr [HB]
  · iapply pair
    isplitl [Hat]; · iexact Hat
    iapply pair
    isplitl [Hopen] <;> iassumption
  iexact HB

/-! ## The run -/

theorem held_list (c : Dev nD) (W : Valuation τ sig (Elt F)) :
    (StableHlo.held (c : Thread nD τ) (Pipeline.ucRefs τ sig) W : sProp 𝕄)
      = iprop(pt c main_arg0 (W main_arg0) ∗ pt c main_arg1 (W main_arg1) ∗ pt c main_arg2 (W main_arg2) ∗ pt c main_arg3 (W main_arg3)
        ∗ pt c main_arg4 (W main_arg4) ∗ pt c main_v5 (W main_v5) ∗ pt c main_v1 (W main_v1) ∗ pt c main_v2 (W main_v2)
        ∗ pt c main_v3 (W main_v3) ∗ pt c main_v4 (W main_v4)) := by
  unfold StableHlo.held
  rw [bigSep_eq_bigSepL_of_eq [(Proc.devRef .tc main_arg0 : DevRef τ sig), Proc.devRef .tc main_arg1, Proc.devRef .tc main_arg2, Proc.devRef .tc main_arg3,
    Proc.devRef .tc main_arg4, Proc.devRef .tc main_v5, Proc.devRef .tc main_v1, Proc.devRef .tc main_v2, Proc.devRef .tc main_v3, Proc.devRef .tc main_v4]
    (by decide) (by decide)]
  rfl

theorem V₃_ne (c : Dev nD) (b : Ref sig .tc) (h5 : b ≠ main_v5) (h4 : b ≠ main_v4) : V₃ m c b = V m c b := by
  show StableHlo.after hostOps1 (V₂ m c) (Proc.devRef .tc b) = _
  rw [StableHlo.after_of_forall_not_mem (b := Proc.devRef .tc b) _ _ (List.forall_iff_forall_mem.mp (by
    simp only [hostOps1, List.Forall, StableHlo.reshape_writes, Finset.mem_singleton]
    exact StableHlo.devRef_ne_of_ne h5))]
  exact V₂_ne m c _ (StableHlo.devRef_ne_of_ne h4)

/-- The result: the gathered sums, reshaped. -/
def result : Vec F S2x256x768 .f32 := shapeCast S2x256x768 (k0_pay40 (ags m)) shapeCasts_S32x16x768_S2x256x768

theorem V₃_result (c : Dev nD) : V₃ m c main_v5 = result m := by
  show StableHlo.after hostOps1 (V₂ m c) (Proc.devRef .tc main_v5) = _
  rw [StableHlo.after_cons, StableHlo.after_nil, StableHlo.reshape_result, V₂_out]
  rfl

theorem unscoped_eq : ∀ sm : SemLoc sig, sm.isScoped .tc = false → sm = .reg barrier0 := by decide

/-- What the final memory holds on device `c`. -/
def Ends (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_v5) = result m

theorem read_end (c : Dev nD) (s' : Phys nD τ sig (Elt F)) :
    iprop(Tₙ m c ∗ SI s') ⊢ (|={Set.univ}=> iprop(⌜Ends m c s'.mem ∧ s'.mem.sem (barCell c) = 0⌝ ∗ SI s') : sProp 𝕄) := by
  unfold Tₙ
  rw [held_list, V₃_ne m c main_arg0 (by decide) (by decide), V₃_ne m c main_arg1 (by decide) (by decide), V₃_ne m c main_arg2 (by decide) (by decide),
    V₃_ne m c main_arg3 (by decide) (by decide), V₃_ne m c main_arg4 (by decide) (by decide), V_main_arg0, V_main_arg1, V_main_arg2, V_main_arg3, V_main_arg4,
    V₃_result]
  iintro ⟨⟨⟨H0, H1, H2, H3, H4, H5, -⟩, Hb⟩, HSI⟩
  icombine HSI H0 gives %h0
  icombine HSI H1 gives %h1
  icombine HSI H2 gives %h2
  icombine HSI H3 gives %h3
  icombine HSI H4 gives %h4
  icombine HSI H5 gives %h5
  icombine HSI Hb gives %hb
  imodintro
  isplitr
  · ipureintro
    exact ⟨⟨Buf.eq_of_forall_mem_univ h0, Buf.eq_of_forall_mem_univ h1, Buf.eq_of_forall_mem_univ h2, Buf.eq_of_forall_mem_univ h3,
      Buf.eq_of_forall_mem_univ h4, Buf.eq_of_forall_mem_univ h5⟩, by simpa using hb⟩
  iexact HSI

set_option backward.isDefEq.respectTransparency.types false in
/-- THE RUN: from any memory with zero counters, every weakly fair execution on the 32 devices terminates; the arguments end as
    they were, the result is the gathered sums on every device, and every semaphore counter reads zero. -/
theorem run_main : θ_run defs (onTc (τ := τ) (main (F := F))) ⟨m, fun _ => 0, ρ⟩ (fun r => (∀ c : Dev nD, Ends m c r.2) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (own_split _ _) $$ Hu
      icases H with ⟨HP, HX⟩
      imodintro
      isplitl [HP]; · iexact HP
      rw [G_zero]; iexact HX)
    (T₀ := T₀ m) (Tₙ := Tₙ m)
    (hch := ⟨fun c => .rfl, into_region m, out_of_region m, at_end m⟩)
    (hinit := init m ρ)
    (QY := fun c s => Ends m c s ∧ s.sem (barCell c) = 0)
    (hfin := fun c s' => read_end m c s')
    (hQ := fun s h hs => ⟨fun c => (h c).1, sem_eq_zero hs fun c sm hsm => by
      obtain rfl := unscoped_eq sm hsm
      exact (h c).2⟩)

end Cert.Proof

end
-- ==== Proof.Frames.lean ====
/-
  The frames of the three programs. The kernel's two readings are one text, so the run over any floats gives both; the
  reference is a straight line of host operations and declares no semaphore.
-/
module

public import proofs.«01_k».proof.Defs
public import proofs.«01_k».proof.Proof.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

section
open Cert.KernelIdeal

/-- The frame over any floats. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => have e := h.1 c; ⟨e.1, e.2.1, e.2.2.1, e.2.2.2.1, e.2.2.2.2.1⟩, h.2⟩) (run_main m ρ)

end

theorem frame_ideal : Cert.quiescent_KernelIdeal := fun m ρ _ => frame_any (F := Ideal) m ρ

/-- The two readings of the kernel have one table of bodies: -/
theorem defs₀_eq : (Cert.Kernel.defs₀ (F := Bits)) = Cert.KernelIdeal.defs₀ (F := Bits) := by
  unfold Cert.Kernel.defs₀ Cert.KernelIdeal.defs₀
  refine congrArg _ (funext fun l => funext fun a => ?_)
  match l, a with
  | 0, (t, s) => rfl
  | ⟨_ + 1, h⟩, _ => exact absurd h (Nat.not_lt.2 (Nat.le_add_left _ _))
/-- and one table of calls. -/
theorem defs_eq : (Cert.Kernel.defs (F := Bits)) = Cert.KernelIdeal.defs (F := Bits) := by
  unfold Cert.Kernel.defs Cert.KernelIdeal.defs; rw [defs₀_eq]; rfl

theorem frame_kernel : Cert.quiescent_Kernel := fun m ρ _ => by
  rw [defs_eq]
  exact frame_any (F := Bits) m ρ

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.Softmax.lean ====
/-
  Attention of one query over the extended reals: the values weighed by the softmax of the scores, around the greatest score.
  What both programs compute at an element is this of their scores.
-/
module

public import Idealize.ShloMosaic.Lib.Pointwise

@[expose] public section

noncomputable section

namespace Cert.Proof

open Idealize.ShloMosaic

/-- The greatest of 512 scores. -/
def top (s : Fin 512 → EReal) : EReal := Finset.univ.fold max ⊥ s
/-- The values `v` weighed by the exponentials of the scores `s`, over the sum of these. -/
def att (s v : Fin 512 → EReal) : EReal := Ideal.div (∑ j, Ideal.exp (s j - top s) * v j) (∑ j, Ideal.exp (s j - top s))

/-- The pattern the maxima start from is the least value; -/
theorem low_eq : Ideal.ofBits .f32 0xFF800000#32 = ⊥ := by
  simp [Ideal.ofBits, Ideal.ieee]
/-- the scale is an eighth. -/
theorem scale_eq : Ideal.ofBits .f32 0x3E000000#32 = ((1 / 8 : ℝ) : EReal) := by
  simp [Ideal.ofBits, Ideal.ieee, -EReal.coe_mul]
  norm_num

/-- Scaling each term of a sum is scaling the sum. -/
theorem sum_scale {ι : Type*} (S : Finset ι) (f : ι → EReal) :
    (∑ i ∈ S, f i) * Ideal.ofBits .f32 0x3E000000#32 = ∑ i ∈ S, f i * Ideal.ofBits .f32 0x3E000000#32 := by
  classical
  rw [scale_eq]
  induction S using Finset.induction_on with
  | empty => simp
  | insert a S h ih =>
    rw [Finset.sum_insert h, Finset.sum_insert h, EReal.right_distrib_of_nonneg_of_ne_top, ih]
    · exact EReal.coe_nonneg.2 (by norm_num)
    · exact EReal.coe_ne_top _

end Cert.Proof

end
-- ==== Proof.KValue.lean ====
/-
  What a device computes before the exchanges, element by element, over the extended reals.
-/
module

public import proofs.«01_k».proof.Proof.Slots
public import proofs.«01_k».proof.Proof.Softmax

@[expose] public section

noncomputable section

namespace Cert.Proof

open Cert.KernelIdeal Cert.KernelIdeal.Gen
open Idealize.ShloMosaic

set_option maxRecDepth 16384

/-- The queries: the tokens' product with the weight, scaled. -/
theorem queries_at (x : Vec Ideal S512x768 .bf16) (wq : Vec Ideal S768x512 .bf16) (r n : Fin 512) :
    k0_pay1 x wq (ix2 r n) = (∑ k : Fin 768, x (ix2 r k) * wq (ix2 k n)) * Ideal.ofBits .f32 0x3E000000#32 := by
  pointwise [k0_pay1]

theorem attn_at (q : FVec Ideal S512x512 .bf16) (i : Fin 16) (k v : Vec Ideal S1x1x512x64 .bf16) (a : Fin 256) (e : Fin 64) :
    attn q i k v (ix2 a e)
      = att (fun j => ∑ f : Fin 64, q (ix2 ⟨i.val / 8 * 256 + a.val, by omega⟩ ⟨i.val % 8 * 64 + f.val, by omega⟩) * k (ix4 0 0 j f)) fun j => v (ix4 0 0 j e) := by
  unfold att top
  rw [← low_eq]
  pointwise [attn]

theorem head_at (i : Fin 16) (K : Vec Ideal S2x8x512x64 .bf16) (j : Fin 512) (e : Fin 64) :
    headAt i K (ix4 0 0 j e) = K (ix4 ⟨i.val / 8, by omega⟩ ⟨i.val % 8, by omega⟩ j e) := by
  unfold headAt
  congr 1
  funext a; fin_cases a <;> apply Fin.ext
  · show i.val / 8 + 1 * 0 = i.val / 8; omega
  · show i.val % 8 + 1 * 0 = i.val % 8; omega
  · show 0 + 1 * j.val = j.val; omega
  · show 0 + 1 * e.val = e.val; omega

/-- A device's scores: row `r` and local head `h` against all keys. -/
def kscores (I : Ins Ideal) (r : Fin 512) (h : Fin 8) (j : Fin 512) : EReal :=
  ∑ e : Fin 64, (∑ a : Fin 768, I.x (ix2 r a) * I.wq (ix2 a ⟨h.val * 64 + e.val, by omega⟩)) * Ideal.ofBits .f32 0x3E000000#32
    * I.k (ix4 ⟨r.val / 256, by omega⟩ h j e)

theorem oFull_at (I : Ins Ideal) (r n : Fin 512) :
    oFull I (ix2 r n) = att (kscores I r ⟨n.val / 64, by omega⟩) fun j => I.v (ix4 ⟨r.val / 256, by omega⟩ ⟨n.val / 64, by omega⟩ j ⟨n.val % 64, by omega⟩) := by
  have hb : blkOf (ix2 r n) = ⟨r.val / 256 * 8 + n.val / 64, by omega⟩ := rfl
  have hi : inBlk (ix2 r n) = ix2 ⟨r.val % 256, by omega⟩ ⟨n.val % 64, by omega⟩ := by
    funext a; fin_cases a <;> rfl
  have e1 : (r.val / 256 * 8 + n.val / 64) / 8 = r.val / 256 := by omega
  have e2 : (r.val / 256 * 8 + n.val / 64) % 8 = n.val / 64 := by omega
  have e3 : r.val / 256 * 256 + r.val % 256 = r.val := by omega
  unfold oFull
  rw [hb, hi, attn_at]
  simp only [queries_at, head_at, e1, e2, e3, Fin.eta]
  rfl

theorem part_at (I : Ins Ideal) (p : Fin 32) (a : Fin 16) (d : Fin 768) :
    part I (ix3 p a d) = ∑ n : Fin 512, oFull I (ix2 ⟨p.val * 16 + a.val, by omega⟩ n) * I.wo (ix2 n d) := by
  pointwise [part, k0_pay34, k0_pay33]

/-! ## The sum over the devices -/

theorem sumL_at (f : Blocks Ideal) (a : Fin 16) (d : Fin 768) : ∀ (l : List (Fin 31)) (acc : FVec Ideal S16x768 .f32),
    sumL f l acc (ix2 a d) = acc (ix2 a d) + (l.map fun e => f (ix3 ⟨1 + e.val, by omega⟩ a d)).sum
  | [], acc => by simp [sumL]
  | e :: l, acc => by
    rw [sumL, sumL_at f a d l, List.map_cons, List.sum_cons, ← add_assoc]
    congr 1
    have h : slotAt f e (ix3 0 a d) = f (ix3 ⟨1 + e.val, by omega⟩ a d) := by
      unfold slotAt
      congr 1
      funext b; fin_cases b <;> apply Fin.ext
      · show 1 + e.val + 1 * 0 = 1 + e.val; omega
      · show 0 + 1 * a.val = a.val; omega
      · show 0 + 1 * d.val = d.val; omega
    rw [← h]
    generalize slotAt f e = g
    pointwise

theorem sum_others (g : Fin 31 → EReal) : (others.map g).sum = ∑ e, g e := by
  have h : others = List.finRange 31 := by decide
  rw [h, ← List.ofFn_eq_map, List.sum_ofFn]

/-- The devices from `c` on, all round. -/
theorem sum_turn (c : Fin 32) (g : Fin 32 → EReal) : g c + ∑ e : Fin 31, g (c + ⟨1 + e.val, by omega⟩) = ∑ c', g c' := by
  rw [← Equiv.sum_comp (Equiv.addLeft c) g, Fin.sum_univ_succ (fun i : Fin 32 => g (Equiv.addLeft c i))]
  simp only [Equiv.coe_addLeft, add_zero]
  refine congrArg _ (Finset.sum_congr rfl fun e _ => congrArg (fun x => g (c + x)) (Fin.ext ?_))
  exact Nat.add_comm 1 e.val

theorem accOf_at (inp : Dev nD → Ins Ideal) (c : Dev nD) (a : Fin 16) (d : Fin 768) :
    accOf inp c (ix2 a d) = ∑ c' : Dev nD, part (inp c') (ix3 c a d) := by
  have own : shapeCast S16x768 (ownAt c (part (inp c))) shapeCasts_S1x16x768_S16x768 (ix2 a d) = part (inp c) (ix3 c a d) := by
    have h : ownAt c (part (inp c)) (ix3 0 a d) = part (inp c) (ix3 c a d) := by
      unfold ownAt
      congr 1
      have o0 : k0_off2 c 0 = c.val := congrFun (k0_off2_eq c) 0
      have o1 : k0_off2 c 1 = 0 := congrFun (k0_off2_eq c) 1
      have o2 : k0_off2 c 2 = 0 := congrFun (k0_off2_eq c) 2
      funext b; fin_cases b <;> apply Fin.ext
      · show k0_off2 c 0 + 1 * 0 = c.val; omega
      · show k0_off2 c 1 + 1 * a.val = a.val; omega
      · show k0_off2 c 2 + 1 * d.val = d.val; omega
    rw [← h]
    generalize ownAt c (part (inp c)) = g
    pointwise
  have sent (j : Fin 32) : landed (cvOf inp) c (ix3 j a d) = part (inp (c + j)) (ix3 c a d) := by
    have h : landed (cvOf inp) c (ix3 j a d) = conv (inp (c + j)) (ix3 c a d) := by
      unfold landed cvOf
      congr 1
      funext b; fin_cases b <;> rfl
    rw [h]
    unfold conv
    generalize part (F := Ideal) _ = g
    pointwise [k0_pay35]
  unfold accOf
  rw [sumL_at, own, sum_others]
  rw [Finset.sum_congr rfl fun e _ => sent ⟨1 + e.val, by omega⟩]
  exact sum_turn c fun c' => part (inp c') (ix3 c a d)

/-- What every device ends with: block `p` is the sum of the devices' blocks `p`. -/
theorem agOf_at (inp : Dev nD → Ins Ideal) (p : Fin 32) (a : Fin 16) (d : Fin 768) :
    agOf inp (ix3 p a d) = ∑ c' : Dev nD, part (inp c') (ix3 p a d) := by
  have h : agOf inp (ix3 p a d) = sendOf inp p (ix3 0 a d) := by
    unfold agOf gather
    congr 1
    funext b; fin_cases b <;> rfl
  rw [h, ← accOf_at inp p a d]
  unfold sendOf
  generalize accOf inp p = g
  pointwise

end Cert.Proof

end
-- ==== Proof.RValue.lean ====
/-
  The reference's result, element by element, over the extended reals.
-/
module

public import proofs.«01_k».proof.Proof.Gen.ReferenceIdeal.Run
public import proofs.«01_k».proof.Proof.Softmax

@[expose] public section

noncomputable section

namespace Cert.Proof

open Cert.ReferenceIdeal Cert.ReferenceIdeal.Gen
open Idealize.ShloMosaic

section
variable (x : FVec Ideal S2x256x768 .bf16) (wq : FVec Ideal S768x16384 .bf16) (wo : FVec Ideal S16384x768 .bf16) (k v : FVec Ideal S2x512x256x64 .bf16)

/-! ## The reference's steps -/

/-- The queries; -/
def refQ : FVec Ideal S2x256x256x64 .bf16 :=
  shapeCast S2x256x256x64 (truncf .bf16 (Host.dotGeneral dot_S2x256x768_S768x16384_S2x256x16384_2_0_01_1_n_n none x wq) bitsLt_bf16_f32) shapeCasts_S2x256x16384_S2x256x256x64
/-- the scaled scores of queries `q`; -/
def refS (q : FVec Ideal S2x256x256x64 .bf16) : FVec Ideal S2x256x256x512 .f32 :=
  mulf (extf .f32 (truncf .bf16 (Host.dotGeneral dot_S2x256x256x64_S2x512x256x64_S2x256x256x512_3_3_1_1_02_02 none q k) bitsLt_bf16_f32) bitsLt_bf16_f32)
    (broadcastInDim S2x256x256x512 ![] bcast_S_S2x256x256x512 (constant S_ .f32 0x3E000000#32))
/-- the least value, for every row; -/
def refLow : FVec Ideal S2x256x256x1 .f32 := broadcastInDim S2x256x256x1 ![] bcast_S_S2x256x256x1 (constant S_ .f32 0xFF800000#32)
/-- the greatest score of each row, -/
def refR (s : FVec Ideal S2x256x256x512 .f32) : FVec Ideal S2x256x256 .f32 :=
  Host.reduce FloatOps.maximumf s (constant S_ .f32 0xFF800000#32) reducesTo_S2x256x256x512_S2x256x256_d3 h_S_
/-- and that or the least value, whichever is greater; -/
def refX (g : FVec Ideal S2x256x256 .f32) : FVec Ideal S2x256x256x1 .f32 :=
  maximumf refLow (broadcastInDim S2x256x256x1 ![0, 1, 2] bcast_S2x256x256_S2x256x256x1_0_1_2 g)
def refM (s : FVec Ideal S2x256x256x512 .f32) : FVec Ideal S2x256x256x1 .f32 := refX (refR s)
/-- the factor of what came before; -/
def refA (mx : FVec Ideal S2x256x256x1 .f32) : FVec Ideal S2x256x256x1 .f32 := Host.exp (subf refLow mx)
/-- the exponentials; -/
def refP (s : FVec Ideal S2x256x256x512 .f32) (mx : FVec Ideal S2x256x256x1 .f32) : FVec Ideal S2x256x256x512 .f32 :=
  Host.exp (subf s (broadcastInDim S2x256x256x512 ![0, 1, 2, 3] bcast_S2x256x256x1_S2x256x256x512_0_1_2_3 mx))
/-- their sums; -/
def refL (al : FVec Ideal S2x256x256x1 .f32) (p : FVec Ideal S2x256x256x512 .f32) : FVec Ideal S2x256x256x1 .f32 :=
  addf (mulf (broadcastInDim S2x256x256x1 ![] bcast_S_S2x256x256x1 (constant S_ .f32 0x00000000#32)) al)
    (broadcastInDim S2x256x256x1 ![0, 1, 2] bcast_S2x256x256_S2x256x256x1_0_1_2
      (Host.reduceAdd p (constant S_ .f32 0x00000000#32) reducesTo_S2x256x256x512_S2x256x256_d3 h_S_))
/-- the values weighed; -/
def refO (al : FVec Ideal S2x256x256x1 .f32) (p : FVec Ideal S2x256x256x512 .f32) (l : FVec Ideal S2x256x256x1 .f32) : FVec Ideal S2x256x256x64 .f32 :=
  Host.divf (addf (mulf (broadcastInDim S2x256x256x64 ![] bcast_S_S2x256x256x64 (constant S_ .f32 0x00000000#32))
      (broadcastInDim S2x256x256x64 ![0, 1, 2, 3] bcast_S2x256x256x1_S2x256x256x64_0_1_2_3 (transpose S2x256x256x1 [0, 2, 1, 3] al transposes_S2x256x256x1_S2x256x256x1_0_2_1_3)))
    (transpose S2x256x256x64 [0, 3, 1, 2] (Host.dotGeneral dot_S2x512x256x64_S2x256x256x512_S2x256x64x256_1_3_3_2_02_01 none (extf .f32 v bitsLt_bf16_f32) p)
      transposes_S2x256x64x256_S2x256x256x64_0_3_1_2))
    (broadcastInDim S2x256x256x64 ![0, 1, 2, 3] bcast_S2x256x256x1_S2x256x256x64_0_1_2_3 (transpose S2x256x256x1 [0, 2, 1, 3] l transposes_S2x256x256x1_S2x256x256x1_0_2_1_3))
/-- and their projection. -/
def refY (o : FVec Ideal S2x256x256x64 .f32) : FVec Ideal S2x256x768 .f32 :=
  Host.dotGeneral dot_S2x256x16384_S16384x768_S2x256x768_2_0_01_1_n_n none (shapeCast S2x256x16384 o shapeCasts_S2x256x256x64_S2x256x16384) (extf .f32 wo bitsLt_bf16_f32)
/-- The reference's result. -/
def refOut : FVec Ideal S2x256x768 .f32 :=
  have s := refS k (refQ x wq)
  refY wo (refO v (refA (refM s)) (refP s (refM s)) (refL (refA (refM s)) (refP s (refM s))))

end

theorem res_eq (m : (ℓ : Loc nD τ sig) → Buf (Elt Ideal) ℓ) (c : Dev nD) :
    Cert.ReferenceIdeal.Value.res_main_v35 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## Their elements -/

set_option maxRecDepth 16384

section
variable (x : FVec Ideal S2x256x768 .bf16) (wq : FVec Ideal S768x16384 .bf16) (wo : FVec Ideal S16384x768 .bf16) (k v : FVec Ideal S2x512x256x64 .bf16)
variable (b : Fin 2) (h i : Fin 256)

/-- Which of the 16384 columns coordinate `e` of head `h` is. -/
def col (h : Fin 256) (e : Fin 64) : Fin 16384 := ⟨h.val * 64 + e.val, by omega⟩

theorem refQ_at (e : Fin 64) : refQ x wq (ix4 b i h e) = ∑ a : Fin 768, x (ix3 b i a) * wq (ix2 a (col h e)) := by
  pointwise [refQ, col]
theorem refS_at (q : FVec Ideal S2x256x256x64 .bf16) (j : Fin 512) :
    refS k q (ix4 b h i j) = (∑ e : Fin 64, q (ix4 b i h e) * k (ix4 b j h e)) * Ideal.ofBits .f32 0x3E000000#32 := by
  pointwise [refS]
theorem refR_at (s : FVec Ideal S2x256x256x512 .f32) : refR s (ix3 b h i) = top fun j => s (ix4 b h i j) := by
  refine (Host.reduce_eq_fold _ _ _ _ _ _).trans ((Shape.ReducesTo.fold_fiber_r4_a3 _ _ _ _ _).trans ?_)
  unfold top
  rw [← low_eq]
  rfl
theorem refX_at (g : FVec Ideal S2x256x256 .f32) : refX g (ix4 b h i 0) = g (ix3 b h i) := by
  pointwise [refX, refLow]
  rw [low_eq]
  exact max_eq_right bot_le
theorem refM_at (s : FVec Ideal S2x256x256x512 .f32) : refM s (ix4 b h i 0) = top fun j => s (ix4 b h i j) := by
  unfold refM
  rw [refX_at, refR_at]
theorem refP_at (s : FVec Ideal S2x256x256x512 .f32) (mx : FVec Ideal S2x256x256x1 .f32) (j : Fin 512) :
    refP s mx (ix4 b h i j) = Ideal.exp (s (ix4 b h i j) - mx (ix4 b h i 0)) := by
  pointwise [refP]
theorem refL_at (al : FVec Ideal S2x256x256x1 .f32) (p : FVec Ideal S2x256x256x512 .f32) : refL al p (ix4 b h i 0) = ∑ j : Fin 512, p (ix4 b h i j) := by
  pointwise [refL]
  rw [zero_mul, zero_add]
theorem refO_at (al : FVec Ideal S2x256x256x1 .f32) (p : FVec Ideal S2x256x256x512 .f32) (l : FVec Ideal S2x256x256x1 .f32) (e : Fin 64) :
    refO v al p l (ix4 b i h e) = Ideal.div (∑ j : Fin 512, v (ix4 b j h e) * p (ix4 b h i j)) (l (ix4 b h i 0)) := by
  pointwise [refO]
  rw [zero_mul, zero_add]
theorem refY_at (o : FVec Ideal S2x256x256x64 .f32) (d : Fin 768) :
    refY wo o (ix3 b i d) = ∑ n : Fin 16384, o (ix4 b i ⟨n.val / 64, by omega⟩ ⟨n.val % 64, by omega⟩) * wo (ix2 n d) := by
  pointwise [refY]

/-- A head's scores, one query against all keys. -/
def scores (j : Fin 512) : EReal :=
  ∑ e : Fin 64, (∑ a : Fin 768, x (ix3 b i a) * wq (ix2 a (col h e))) * Ideal.ofBits .f32 0x3E000000#32 * k (ix4 b j h e)

theorem refS_refQ_at (j : Fin 512) : refS k (refQ x wq) (ix4 b h i j) = scores x wq k b h i j := by
  rw [refS_at, sum_scale]
  refine Finset.sum_congr rfl fun e _ => ?_
  rw [refQ_at, mul_right_comm]

/-- THE REFERENCE'S RESULT at an element. -/
theorem refOut_at (d : Fin 768) : refOut x wq wo k v (ix3 b i d)
    = ∑ n : Fin 16384, att (scores x wq k b ⟨n.val / 64, by omega⟩ i) (fun j => v (ix4 b j ⟨n.val / 64, by omega⟩ ⟨n.val % 64, by omega⟩)) * wo (ix2 n d) := by
  unfold refOut
  rw [refY_at]
  refine Finset.sum_congr rfl fun n _ => ?_
  rw [refO_at, refL_at]
  simp only [refP_at, refM_at, refS_refQ_at]
  unfold att
  congr 2
  exact Finset.sum_congr rfl fun j _ => mul_comm _ _
end

end Cert.Proof

end
-- ==== Proof.Value.lean ====
/-
  The kernel's result is the reference's: the devices' sums over their 512 columns, added, are the sum over all 16384.
-/
module

public import proofs.«01_k».proof.Defs
public import proofs.«01_k».proof.Proof.Run
public import proofs.«01_k».proof.Proof.KValue
public import proofs.«01_k».proof.Proof.RValue
public import Idealize.ShloMosaic.Lib.Layout
public import Idealize.ShloMosaic.Lib.Pipeline.ValueKit.Acc

@[expose] public section

noncomputable section

namespace Cert.Proof

open Cert.KernelIdeal Cert.KernelIdeal.Gen
open Idealize.ShloMosaic
open Idealize.ShloMosaic.TcCoe

set_option maxRecDepth 16384

/-! ## What the kernel is given, of the arguments -/

section
variable {F : FTy → Type} [FloatOps F] (m : (ℓ : Loc nD τ sig) → Buf (Elt F) ℓ) (c : Dev nD)

theorem given_x : (inpOf m c).x = shapeCast S512x768 (m ((c : Thread nD τ).loc main_arg0)) shapeCasts_S2x256x768_S512x768 := by
  dsimp only [inpOf]
  simp only [V, V0, hostOps0, List.flatten_cons, List.flatten_nil, List.append_nil, List.cons_append, List.nil_append]
  after_results
  rfl
theorem given_k : (inpOf m c).k = transpose S2x8x512x64 [0, 2, 1, 3] (m ((c : Thread nD τ).loc main_arg3)) transposes_S2x512x8x64_S2x8x512x64_0_2_1_3 := by
  dsimp only [inpOf]
  simp only [V, V0, hostOps0, List.flatten_cons, List.flatten_nil, List.append_nil, List.cons_append, List.nil_append]
  after_results
theorem given_v : (inpOf m c).v = transpose S2x8x512x64 [0, 2, 1, 3] (m ((c : Thread nD τ).loc main_arg4)) transposes_S2x512x8x64_S2x8x512x64_0_2_1_3 := by
  dsimp only [inpOf]
  simp only [V, V0, hostOps0, List.flatten_cons, List.flatten_nil, List.append_nil, List.cons_append, List.nil_append]
  after_results
end

/-! ## The whole arrays -/

/-- What the claim says of the arguments: every device holds the tokens whole and its block of the others. -/
structure Given (m : (ℓ : Loc nD τ sig) → Buf (Elt Ideal) ℓ) (X : FVec Ideal S2x256x768 .bf16)
    (WQ : FVec Ideal ⟨2, ![768, 16384]⟩ .bf16) (WO : FVec Ideal ⟨2, ![16384, 768]⟩ .bf16) (K W : FVec Ideal ⟨4, ![2, 512, 256, 64]⟩ .bf16) : Prop where
  x : ∀ c : Dev nD, m ((c.tc : Thread nD τ).loc main_arg0) = X
  wq : ∀ c : Dev nD, m ((c.tc : Thread nD τ).loc main_arg1) = Layout.block ⟨2, ![768, 512]⟩ ⟨2, ![768, 16384]⟩ 1 32 c WQ
  wo : ∀ c : Dev nD, m ((c.tc : Thread nD τ).loc main_arg2) = Layout.block ⟨2, ![512, 768]⟩ ⟨2, ![16384, 768]⟩ 0 32 c WO
  k : ∀ c : Dev nD, m ((c.tc : Thread nD τ).loc main_arg3) = Layout.block ⟨4, ![2, 512, 8, 64]⟩ ⟨4, ![2, 512, 256, 64]⟩ 2 32 c K
  v : ∀ c : Dev nD, m ((c.tc : Thread nD τ).loc main_arg4) = Layout.block ⟨4, ![2, 512, 8, 64]⟩ ⟨4, ![2, 512, 256, 64]⟩ 2 32 c W

section
variable {m : (ℓ : Loc nD τ sig) → Buf (Elt Ideal) ℓ} {X : FVec Ideal S2x256x768 .bf16}
    {WQ : FVec Ideal ⟨2, ![768, 16384]⟩ .bf16} {WO : FVec Ideal ⟨2, ![16384, 768]⟩ .bf16} {K W : FVec Ideal ⟨4, ![2, 512, 256, 64]⟩ .bf16}
    (G : Given m X WQ WO K W) (c : Fin 32)

/-- An index named by its coordinates. -/
theorem at_idx {s : Shape} {α : Type} (f : s.Idx → α) {i j : s.Idx} (h : ∀ a, (i a).val = (j a).val) : f i = f j :=
  congrArg f (funext fun a => Fin.ext (h a))

include G

theorem x_at (r : Fin 512) (a : Fin 768) : (inpOf m c).x (ix2 r a) = X (ix3 ⟨r.val / 256, by omega⟩ ⟨r.val % 256, by omega⟩ a) := by
  rw [given_x, show m ((c : Thread nD τ).loc main_arg0) = X from G.x c]
  have t (g : S2x256x768.Idx → Elt Ideal .bf16) :
      shapeCast S512x768 g shapeCasts_S2x256x768_S512x768 (ix2 r a) = g (ix3 ⟨r.val / 256, by omega⟩ ⟨r.val % 256, by omega⟩ a) := by pointwise
  exact t X
theorem wq_at (a : Fin 768) (n : Fin 512) : (inpOf m c).wq (ix2 a n) = WQ (ix2 a ⟨c.val * 512 + n.val, by omega⟩) := by
  show V m c main_arg1 _ = _
  rw [V_main_arg1, show m ((c : Thread nD τ).loc main_arg1) = _ from G.wq c]
  exact at_idx WQ fun b => by fin_cases b <;> rfl
theorem wo_at (n : Fin 512) (d : Fin 768) : (inpOf m c).wo (ix2 n d) = WO (ix2 ⟨c.val * 512 + n.val, by omega⟩ d) := by
  show V m c main_arg2 _ = _
  rw [V_main_arg2, show m ((c : Thread nD τ).loc main_arg2) = _ from G.wo c]
  exact at_idx WO fun b => by fin_cases b <;> rfl
theorem k_at (b : Fin 2) (h : Fin 8) (j : Fin 512) (e : Fin 64) : (inpOf m c).k (ix4 b h j e) = K (ix4 b j ⟨c.val * 8 + h.val, by omega⟩ e) := by
  rw [given_k, show m ((c : Thread nD τ).loc main_arg3) = _ from G.k c]
  have t (g : S2x512x8x64.Idx → Elt Ideal .bf16) :
      transpose S2x8x512x64 [0, 2, 1, 3] g transposes_S2x512x8x64_S2x8x512x64_0_2_1_3 (ix4 b h j e) = g (ix4 b j h e) := by pointwise
  rw [t]
  exact at_idx K fun b => by fin_cases b <;> rfl
theorem v_at (b : Fin 2) (h : Fin 8) (j : Fin 512) (e : Fin 64) : (inpOf m c).v (ix4 b h j e) = W (ix4 b j ⟨c.val * 8 + h.val, by omega⟩ e) := by
  rw [given_v, show m ((c : Thread nD τ).loc main_arg4) = _ from G.v c]
  have t (g : S2x512x8x64.Idx → Elt Ideal .bf16) :
      transpose S2x8x512x64 [0, 2, 1, 3] g transposes_S2x512x8x64_S2x8x512x64_0_2_1_3 (ix4 b h j e) = g (ix4 b j h e) := by pointwise
  rw [t]
  exact at_idx W fun b => by fin_cases b <;> rfl

theorem scores_eq (r : Fin 512) (h : Fin 8) :
    kscores (inpOf m c) r h = scores X WQ K ⟨r.val / 256, by omega⟩ ⟨c.val * 8 + h.val, by omega⟩ ⟨r.val % 256, by omega⟩ := by
  funext j
  unfold kscores scores
  refine Finset.sum_congr rfl fun e _ => ?_
  rw [k_at G]
  refine congrArg (· * _) (congrArg (· * _) (Finset.sum_congr rfl fun a _ => ?_))
  rw [x_at G, wq_at G]
  refine congrArg (_ * WQ ·) (congrArg (ix2 a) (Fin.ext ?_))
  show c.val * 512 + (h.val * 64 + e.val) = (c.val * 8 + h.val) * 64 + e.val
  omega

theorem result_at (b : Fin 2) (i : Fin 256) (d : Fin 768) : result m (ix3 b i d) = refOut X WQ WO K W (ix3 b i d) := by
  have h : result m (ix3 b i d) = agOf (inpOf m) (ix3 ⟨b.val * 16 + i.val / 16, by omega⟩ ⟨i.val % 16, by omega⟩ d) := by
    unfold result ags
    generalize agOf (inpOf m) = g
    pointwise [k0_pay40]
  rw [h, agOf_at, refOut_at]
  simp only [part_at]
  refine Fin.sum_mul_add_congr fun c n hl => ?_
  rw [oFull_at, scores_eq G, wo_at G]
  simp only [v_at G]
  have t : ∀ (b' : Fin 2) (h h' i' : Fin 256) (e e' : Fin 64), b'.val = b.val → h'.val = h.val → i'.val = i.val → e'.val = e.val →
      att (scores X WQ K b' h' i') (fun j => W (ix4 b' j h' e')) = att (scores X WQ K b h i) fun j => W (ix4 b j h e) := by
    intro b' h h' i' e e' h1 h2 h3 h4
    obtain rfl := Fin.ext h1
    obtain rfl := Fin.ext h2
    obtain rfl := Fin.ext h3
    obtain rfl := Fin.ext h4
    rfl
  refine congrArg (· * _) (t _ _ _ _ _ _ ?_ ?_ ?_ ?_) <;> dsimp only <;> omega

theorem result_eq : result m = refOut X WQ WO K W := by
  funext j
  rw [show j = ix3 (j 0) (j 1) (j 2) from eq_ix3 j]
  exact result_at G (j 0) (j 1) (j 2)
end

/-! ## The claim -/

attribute [local instance] Cert.KernelIdeal.Gen.facts Cert.ReferenceIdeal.Gen.facts

/-- From arguments cut from the reference's, every device ends with the reference's result. -/
theorem algebraic : Cert.algebraic_KernelIdeal_ReferenceIdeal := by
  intro m g m' g' _ hin
  have G : Given m _ _ _ _ _ := ⟨fun c => (hin c).1, fun c => (hin c).2.1, fun c => (hin c).2.2.1, fun c => (hin c).2.2.2.1, fun c => (hin c).2.2.2.2⟩
  have e : result m = Cert.ReferenceIdeal.Value.res_main_v35 (F := Ideal) m' 0 := (result_eq G).trans (res_eq m' 0).symm
  refine ⟨Cert.ReferenceIdeal.Value.res_main_v35 (F := Ideal) m' 0, ?_, ?_⟩
  · refine (θ_run Cert.KernelIdeal.defs _ _).mono (fun _ h c => ?_) (run_main (F := Ideal) m g)
    obtain ⟨h0, h1, h2, h3, h4, h5⟩ := h.1 c
    exact ⟨h5.trans e, h0, h1, h2, h3, h4⟩
  · exact (θ_run Cert.ReferenceIdeal.defs _ _).mono (fun _ h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The frames of the three programs, that the idealization is the kernel's own text, and that its result is the reference's. -/
theorem claim : Cert.Claim := ⟨Cert.Kernel.Gen.facts, Cert.KernelIdeal.Gen.facts, Cert.ReferenceIdeal.Gen.facts,
  frame_kernel, frame_ideal, frame_reference, trivial, algebraic⟩

end Cert.Proof

end
